-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x128 : Shape := ⟨2, ![262144, 128]⟩
abbrev S128x43 : Shape := ⟨2, ![128, 43]⟩
abbrev S43 : Shape := ⟨1, ![43]⟩
abbrev S_ : Shape := ⟨0, ![]⟩
abbrev S128x128 : Shape := ⟨2, ![128, 128]⟩
abbrev S1 : Shape := ⟨1, ![1]⟩
abbrev S1x128 : Shape := ⟨2, ![1, 128]⟩
abbrev S2 : Shape := ⟨1, ![2]⟩
abbrev S262144x43 : Shape := ⟨2, ![262144, 43]⟩
abbrev S4096x128 : Shape := ⟨2, ![4096, 128]⟩
abbrev S4096x43 : Shape := ⟨2, ![4096, 43]⟩
abbrev S4096 : Shape := ⟨1, ![4096]⟩
abbrev S4096x1 : Shape := ⟨2, ![4096, 1]⟩

abbrev nBuf : Space → Nat
  | .hbm => 18
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S128x43, .f32⟩
  | .hbm, ⟨2, _⟩ => ⟨S43, .f32⟩
  | .hbm, ⟨3, _⟩ => ⟨S_, .f32⟩
  | .hbm, ⟨4, _⟩ => ⟨S128x128, .f32⟩
  | .hbm, ⟨5, _⟩ => ⟨S_, .i32⟩
  | .hbm, ⟨6, _⟩ => ⟨S1, .i32⟩
  | .hbm, ⟨7, _⟩ => ⟨S128x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S262144x43, .f32⟩
  | .local _ .vmem, ⟨0, _⟩ => ⟨S1x128, .f32⟩
  | .local _ .vmem, ⟨1, _⟩ => ⟨S1x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S4096x43, .f32⟩
  | .local _ .vmem, ⟨7, _⟩ => ⟨S4096x43, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x43 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S262144x128 : Shape := ⟨2, ![262144, 128]⟩
abbrev S128x43 : Shape := ⟨2, ![128, 43]⟩
abbrev S43 : Shape := ⟨1, ![43]⟩
abbrev S9 : Shape := ⟨1, ![9]⟩
abbrev S6 : Shape := ⟨1, ![6]⟩
abbrev S_ : Shape := ⟨0, ![]⟩
abbrev S262144x43 : Shape := ⟨2, ![262144, 43]⟩
abbrev S1x43 : Shape := ⟨2, ![1, 43]⟩
abbrev S262144 : Shape := ⟨1, ![262144]⟩
abbrev S262144x1 : Shape := ⟨2, ![262144, 1]⟩
abbrev S1x9 : Shape := ⟨2, ![1, 9]⟩
abbrev S262144x9 : Shape := ⟨2, ![262144, 9]⟩
abbrev S1x6 : Shape := ⟨2, ![1, 6]⟩
abbrev S262144x6 : Shape := ⟨2, ![262144, 6]⟩

abbrev nBuf : Space → Nat
  | .hbm => 82
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x43, .f32⟩
  | .hbm, ⟨2, _⟩ => ⟨S43, .f32⟩
  | .hbm, ⟨3, _⟩ => ⟨S9, .i32⟩
  | .hbm, ⟨4, _⟩ => ⟨S6, .i32⟩
  | .hbm, ⟨5, _⟩ => ⟨S_, .i32⟩
  | .hbm, ⟨6, _⟩ => ⟨S6, .i32⟩
  | .hbm, ⟨7, _⟩ => ⟨S6, .i32⟩
  | .hbm, ⟨8, _⟩ => ⟨S262144x43, .f32⟩
  | .hbm, ⟨9, _⟩ => ⟨S1x43, .f32⟩
  | .hbm, ⟨10, _⟩ => ⟨S262144x43, .f32⟩
  | .hbm, ⟨11, _⟩ => ⟨S262144x43, .f32⟩
  | .hbm, ⟨12, _⟩ => ⟨S_, .f32⟩
  | .hbm, ⟨13, _⟩ => ⟨S262144, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S262144x1, .f32⟩
  | .hbm, ⟨18, _⟩ => ⟨S262144x43, .f32⟩
  | .hbm, ⟨19, _⟩ => ⟨S262144x43, .f32⟩
  | .hbm, ⟨20, _⟩ => ⟨S262144x43, .f32⟩
  | .hbm, ⟨21, _⟩ => ⟨S_, .f32⟩
  | .hbm, ⟨22, _⟩ => ⟨S262144, .f32⟩
  | .hbm, ⟨23, _⟩ => ⟨S262144x1, .f32⟩
  | .hbm, ⟨24, _⟩ => ⟨S262144x43, .f32⟩
  | .hbm, ⟨25, _⟩ => ⟨S262144x43, .f32⟩
  | .hbm, ⟨26, _⟩ => ⟨S_, .f32⟩
  | .hbm, ⟨27, _⟩ => ⟨S262144x43, .f32⟩
  | .hbm, ⟨28, _⟩ => ⟨S262144x43, .f32⟩
  | .hbm, ⟨29, _⟩ => ⟨S262144x43, .f32⟩
  | .hbm, ⟨30, _⟩ => ⟨S262144x43, .f32⟩
  | .hbm, ⟨31, _⟩ => ⟨S_, .f32⟩
  | .hbm, ⟨32, _⟩ => ⟨S262144, .f32⟩
  | .hbm, ⟨33, _⟩ => ⟨S262144, .f32⟩
  | .hbm, ⟨34, _⟩ => ⟨S_, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S262144x43, .i32⟩
  | .hbm, ⟨39, _⟩ => ⟨S_, .f32⟩
  | .hbm, ⟨40, _⟩ => ⟨S_, .i32⟩
  | .hbm, ⟨41, _⟩ => ⟨S262144, .f32⟩
  | .hbm, ⟨42, _⟩ => ⟨S262144, .i32⟩
  | .hbm, ⟨43, _⟩ => ⟨S_, .f32⟩
  | .hbm, ⟨44, _⟩ => ⟨S262144, .f32⟩
  | .hbm, ⟨45, _⟩ => ⟨S262144, .i1⟩
  | .hbm, ⟨46, _⟩ => ⟨S262144x1, .i32⟩
  | .hbm, ⟨47, _⟩ => ⟨S1x9, .i32⟩
  | .hbm, ⟨48, _⟩ => ⟨S262144x9, .i32⟩
  | .hbm, ⟨49, _⟩ => ⟨S262144x9, .i32⟩
  | .hbm, ⟨50, _⟩ => ⟨S262144x9, .i1⟩
  | .hbm, ⟨51, _⟩ => ⟨S_, .i1⟩
  | .hbm, ⟨52, _⟩ => ⟨S262144, .i1⟩
  | .hbm, ⟨53, _⟩ => ⟨S262144x1, .i32⟩
  | .hbm, ⟨54, _⟩ => ⟨S1x6, .i32⟩
  | .hbm, ⟨55, _⟩ => ⟨S262144x6, .i32⟩
  | .hbm, ⟨56, _⟩ => ⟨S262144x6, .i32⟩
  | .hbm, ⟨57, _⟩ => ⟨S262144x6, .i1⟩
  | .hbm, ⟨58, _⟩ => ⟨S_, .i1⟩
  | .hbm, ⟨59, _⟩ => ⟨S262144, .i1⟩
  | .hbm, ⟨60, _⟩ => ⟨S262144, .i1⟩
  | .hbm, ⟨61, _⟩ => ⟨S262144, .i1⟩
  | .hbm, ⟨62, _⟩ => ⟨S_, .i32⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S_, .i32⟩
  | .hbm, ⟨67, _⟩ => ⟨S_, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S1x43, .i32⟩
  | .hbm, ⟨72, _⟩ => ⟨S262144x43, .i32⟩
  | .hbm, ⟨73, _⟩ => ⟨S262144x43, .i32⟩
  | .hbm, ⟨74, _⟩ => ⟨S262144x43, .i1⟩
  | .hbm, ⟨75, _⟩ => ⟨S262144x43, .f32⟩
  | .hbm, ⟨76, _⟩ => ⟨S_, .f32⟩
  | .hbm, ⟨77, _⟩ => ⟨S262144x43, .f32⟩
  | .hbm, ⟨78, _⟩ => ⟨S262144x43, .f32⟩
  | .hbm, ⟨79, _⟩ => ⟨S_, .f32⟩
  | .hbm, ⟨80, _⟩ => ⟨S262144x43, .f32⟩
  | .hbm, ⟨81, _⟩ => ⟨S262144x43, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_cst : Ref sig .tc := ⟨.hbm, 39, rfl⟩
abbrev main_call0_c : Ref sig .tc := ⟨.hbm, 40, rfl⟩
abbrev main_call0_v1_0 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c : Ref sig .tc := ⟨.hbm, 51, rfl⟩
abbrev main_v31 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_call3_v0 : Ref sig .tc := ⟨.hbm, 63, rfl⟩
abbrev main_call3_v1 : Ref sig .tc := ⟨.hbm, 64, rfl⟩
abbrev main_v35 : Ref sig .tc := ⟨.hbm, 65, rfl⟩
abbrev main_c_7 : Ref sig .tc := ⟨.hbm, 66, rfl⟩
abbrev main_call4_v0 : Ref sig .tc := ⟨.hbm, 67, rfl⟩
abbrev main_call4_v1 : Ref sig .tc := ⟨.hbm, 68, rfl⟩
abbrev main_v36 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩

abbrev nD : Nat := 1
abbrev τ : Topo := Topo.v7x

variable {F : FTy → Type} [FloatOps F]
-- ==== Proof.KernelRun.lean ====
/- The kernel's run, its result array among what the final state holds; and the two padded operands of the second
   kernel call as the host operations and the fill call before it leave them. -/
module

public import proofs.«01_k».proof.Proof.Gen.KernelIdeal.Frame
public import Idealize.ShloMosaic.Lib.Pipeline.Value
public import Idealize.ShloMosaic.Lib.StableHlo.Run

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, nothing faulting, with the result array at what the second call's write-backs leave, the
    arguments as launched and every counter at zero. -/
theorem run : θ_run defs (onTc (τ := τ) (main (F := F))) ⟨m, fun _ => 0, ρ⟩ (fun r => (∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v9 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-! ## The padded operands -/

/-- The weights written over a matrix of zeros. -/
def padW (W : FVec F S128x43 .f32) : FVec F S128x128 .f32 :=
  Host.scatter scatter_S128x128_S1_S128x43_01_n_1_0 (fun _ b => b)
    (broadcastInDim S128x128 ![] bcast_S_S128x128 (constant S_ .f32 0x00000000#32)) (broadcastInDim S1 ![] bcast_S_S1 (constantI S_ 32 0#32)) W

/-- The bias written over the row `y`. -/
def padB (y : FVec F S1x128 .f32) (b : FVec F S43 .f32) : FVec F S1x128 .f32 :=
  Host.scatter scatter_S1x128_S2_S43_0_0_01_0 (fun _ b => b) y
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) b

/-- The second call finds `x` as launched. -/
theorem V3_x (c : Dev nD) : V3 m ρ c main_arg0 = m ((c : Thread nD τ).loc main_arg0) := W3_args m ρ c main_arg0 (by decide)

/-- The second call finds the padded weights. -/
theorem V3_W (c : Dev nD) : V3 m ρ c main_v2 = padW (m ((c : Thread nD τ).loc main_arg1)) :=
  (W3_of m ρ c main_v2 (by decide)).trans ((W2_of m ρ c main_v2 (by decide)).trans (by
    show StableHlo.after hostOps0 (W0 m ρ c) _ = _
    after_results_simp <;> rfl))

/-- Offsets of zero. -/
theorem hz : (![0, 0] : Fin 2 → Nat) = fun _ => 0 := funext fun a => by fin_cases a <;> rfl

/-- The fill call's one point writes the whole row back. -/
theorem fill_flushed (V : (c : Dev nD) → (b : Ref sig .tc) → Buf (Elt F) ((c : Thread nD τ).loc b)) (c : Dev nD) (t : Fin cfg0.N) :
    (dat0 V c).flushed 1 t = (win0_1.blk t).view.read (Elt F) (k0_pay1 (F := F)) := by
  show (cfg0.win 1).cut (grid0.coords t) ((dat0 V c).after 1 t) = _
  rw [after0_1]
  unfold out0_1
  rw [View.canon_unit_zero hz]
  rfl

/-- Where that point's block starts, and its extents. -/
theorem fill_at : ∀ t : Fin cfg0.N, win0_1.index t 0 * win0_1.size 0 = 0 ∧ win0_1.xsize (grid0.coords t) 0 = 1
    ∧ win0_1.index t 1 * win0_1.size 1 = 0 ∧ win0_1.xsize (grid0.coords t) 1 = 128 :=
  (by decide +kernel : ∀ t : Fin grid0.N, _)

/-- Every index of the row is in that point's block. -/
theorem fill_cover (i : S1x128.Idx) : ∃ t : Fin cfg0.N, (cfg0.win 1).flush t = true ∧ i ∈ ((cfg0.win 1).blk t).view.set := by
  have ht : 0 < cfg0.N := by decide
  refine ⟨⟨0, ht⟩, flush0_1 _, ?_⟩
  show i ∈ ((View.whole main_v4).slice (win0_1.rect ⟨0, ht⟩)).set
  rw [View.set_slice_whole, Rect.mem_set_unit]
  have h0 : (i 0 : Nat) < 1 := (i 0).isLt
  have h1 : (i 1 : Nat) < 128 := (i 1).isLt
  have e := fill_at ⟨0, ht⟩
  intro a
  match a with
  | ⟨0, _⟩ => show win0_1.index ⟨0, ht⟩ 0 * win0_1.size 0 ≤ (i 0 : Nat) ∧ (i 0 : Nat) < win0_1.index ⟨0, ht⟩ 0 * win0_1.size 0 + win0_1.xsize (grid0.coords ⟨0, ht⟩) 0
              rw [e.1, e.2.1]; omega
  | ⟨1, _⟩ => show win0_1.index ⟨0, ht⟩ 1 * win0_1.size 1 ≤ (i 1 : Nat) ∧ (i 1 : Nat) < win0_1.index ⟨0, ht⟩ 1 * win0_1.size 1 + win0_1.xsize (grid0.coords ⟨0, ht⟩) 1
              rw [e.2.2.1, e.2.2.2]; omega

/-- The fill call leaves the row of mask values. -/
theorem V2_fill (c : Dev nD) : W2 m ρ c (Proc.devRef .tc main_v4) = k0_pay1 (F := F) :=
  (W2_arr m ρ c 1).trans ((dat0 (V1 m ρ) c).arrAt_eq_of_cover 1 (k0_pay1 (F := F)) (fun t _ => fill_flushed (V1 m ρ) c t) fill_cover)

/-- The second call finds the bias written over the row of mask values. -/
theorem V3_B (c : Dev nD) : V3 m ρ c main_v8 = padB (k0_pay1 (F := F)) (m ((c : Thread nD τ).loc main_arg2)) := by
  have h : StableHlo.after hostOps1 (W2 m ρ c) (Proc.devRef .tc main_v8)
      = padB (W2 m ρ c (Proc.devRef .tc main_v4)) (W2 m ρ c (Proc.devRef .tc main_arg2)) := by
    after_results_simp <;> rfl
  exact h.trans (by rw [V2_fill, W2_args m ρ c main_arg2 (by decide)])

end Cert.KernelIdeal.Val
-- ==== Proof.Row.lean ====
/- One row of the classifier over the extended reals, at any number of lanes: the logits, their softmax, whether the
   entropy is above the threshold, the first most likely class, the class acted on and the encoded entry. And the law the
   padding rests on: lanes at `⊥` after the real ones change nothing. -/
module

public import Idealize.ShloMosaic.PureOps.Ideal.Laws

@[expose] public section

noncomputable section

namespace Cert.Row

open Idealize.ShloMosaic

variable {n : Nat}

/-- The logits of a row. -/
def logit (x : Fin 128 → EReal) (W : Fin 128 → Fin n → EReal) (b : Fin n → EReal) (k : Fin n) : EReal := ∑ q : Fin 128, x q * W q k + b k
/-- The largest entry. -/
def top (l : Fin n → EReal) : EReal := Finset.univ.fold max ⊥ l
/-- The exponential of an entry less the largest. -/
def expo (l : Fin n → EReal) (k : Fin n) : EReal := Ideal.exp (l k - top l)
/-- The probabilities. -/
def soft (l : Fin n → EReal) (k : Fin n) : EReal := Ideal.div (expo l k) (∑ q : Fin n, expo l q)
/-- The sum of `p · log (p + 10⁻¹⁰)`. -/
def plogp (p : Fin n → EReal) : EReal := ∑ k : Fin n, p k * Ideal.log (p k + Ideal.ofBits .f32 0x2EDBE6FF#32)
/-- Whether the entropy over `log 43` is above the threshold. -/
def high (p : Fin n → EReal) : BitVec 1 :=
  BitVec.ofBool (decide (Ideal.ofBits .f32 0x3F19999A#32 < Ideal.div (0 - plogp p) (Ideal.log (Ideal.ofBits .f32 0x422C0000#32))))
/-- The least index of a largest entry, as the smallest word over the lanes. -/
def first (p : Fin n → EReal) : BitVec 32 :=
  Finset.univ.fold IntOp.minsi 2147483647#32 fun k : Fin n => if p k = top p then BitVec.ofNat 32 k.val else 128#32
/-- The class acted on: 1 for an unsure class up to 8, 14 for an unsure one from 9 to 14, else the class itself. -/
def act (u : BitVec 1) (a : BitVec 32) : BitVec 32 :=
  Scalar.select (IntOp.andi u (IntOp.cmpi .sle a 8#32)) 1#32
    (Scalar.select (IntOp.andi u (IntOp.andi (IntOp.cmpi .sgt a 8#32) (IntOp.cmpi .sle a 14#32))) 14#32 a)
/-- The encoded entry: 100 at the class, −100 elsewhere. -/
def code (a : BitVec 32) (k : Nat) : EReal :=
  Scalar.select (IntOp.cmpi .eq (BitVec.ofNat 32 k) a) (Ideal.ofBits .f32 0x42C80000#32) (Ideal.ofBits .f32 0xC2C80000#32)
/-- The row's result, from its logits. -/
def out (l : Fin n → EReal) (k : Nat) : EReal := code (act (high (soft l)) (first (soft l))) k

/-! ## The largest entry -/

theorem entry_le_top (l : Fin n → EReal) (k : Fin n) : l k ≤ top l := Finset.le_sup (f := l) (Finset.mem_univ k)
theorem top_le (l : Fin n → EReal) (a : EReal) (h : ∀ k, l k ≤ a) : top l ≤ a := Finset.sup_le (f := l) fun k _ => h k

/-- Some entry is the largest. -/
theorem exists_top (hn : 0 < n) (l : Fin n → EReal) : ∃ k, l k = top l := by
  obtain ⟨k, -, hk⟩ := Finset.exists_mem_eq_sup (Finset.univ : Finset (Fin n)) ⟨⟨0, hn⟩, Finset.mem_univ _⟩ l
  exact ⟨k, hk.symm⟩

/-- And there is a first such entry. -/
theorem exists_first (hn : 0 < n) (l : Fin n → EReal) : ∃ k, l k = top l ∧ ∀ q, l q = top l → k ≤ q := by
  classical
  obtain ⟨k, hk⟩ := exists_top hn l
  have hne : (Finset.univ.filter fun q => l q = top l).Nonempty := ⟨k, Finset.mem_filter.2 ⟨Finset.mem_univ _, hk⟩⟩
  exact ⟨_, (Finset.mem_filter.1 (Finset.min'_mem _ hne)).2, fun q hq => Finset.min'_le _ q (Finset.mem_filter.2 ⟨Finset.mem_univ q, hq⟩)⟩

/-! ## The smallest word -/

/-- The signed minimum is the smaller of the two as integers. -/
theorem minsi_toInt (a b : BitVec 32) : (IntOp.minsi a b).toInt = min a.toInt b.toInt := by
  unfold IntOp.minsi
  by_cases h : a.slt b
  · rw [if_pos h]; rw [BitVec.slt_iff_toInt_lt] at h; omega
  · rw [if_neg h]; rw [BitVec.slt_iff_toInt_lt] at h; omega

/-- A fold of signed minima over which one value is the least is that value. -/
theorem fold_minsi (f : Fin n → BitVec 32) (z v : BitVec 32) (k₀ : Fin n) (hk : f k₀ = v) (hz : v.toInt ≤ z.toInt) (hf : ∀ k, v.toInt ≤ (f k).toInt) :
    Finset.univ.fold IntOp.minsi z f = v := by
  classical
  have key : ∀ s : Finset (Fin n), v.toInt ≤ (s.fold IntOp.minsi z f).toInt ∧ (k₀ ∈ s → s.fold IntOp.minsi z f = v) := by
    intro s
    induction s using Finset.induction_on with
    | empty => exact ⟨by rw [Finset.fold_empty]; exact hz, fun h => absurd h (Finset.notMem_empty _)⟩
    | insert a s ha ih =>
      rw [Finset.fold_insert ha]
      refine ⟨by rw [minsi_toInt]; exact le_min (hf a) ih.1, fun h => BitVec.eq_of_toInt_eq ?_⟩
      rw [minsi_toInt]
      rcases Finset.mem_insert.1 h with h | h
      · rw [← h, hk]; exact min_eq_left ih.1
      · rw [ih.2 h]; exact min_eq_right (hf a)
  exact (key Finset.univ).2 (Finset.mem_univ _)

/-- A small number's word, read signed. -/
theorem toInt_small (k : Nat) (h : k < 2 ^ 31) : (BitVec.ofNat 32 k).toInt = k := by
  rw [BitVec.toInt_ofNat']
  rw [Int.bmod_eq_of_le] <;> omega

/-- `first` at the first largest entry. -/
theorem first_eq (hn : n ≤ 128) (p : Fin n → EReal) (k : Fin n) (hk : p k = top p) (hmin : ∀ q, p q = top p → k ≤ q) : first p = BitVec.ofNat 32 k.val := by
  have hlt := k.isLt
  refine fold_minsi _ _ _ k (if_pos hk) ?_ fun q => ?_
  · rw [toInt_small _ (by omega)]
    have : (2147483647#32 : BitVec 32).toInt = 2147483647 := by decide
    omega
  · have hq := q.isLt
    rw [toInt_small _ (by omega)]
    by_cases h : p q = top p
    · rw [if_pos h, toInt_small _ (by omega)]
      have := Fin.le_def.1 (hmin q h)
      omega
    · rw [if_neg h]
      have : (128#32 : BitVec 32).toInt = 128 := by decide
      omega

/-! ## Lanes after the real ones -/

/-- A sum over 128 lanes of which those from 43 on are zero. -/
theorem sum_pad (f : Fin 128 → EReal) (g : Fin 43 → EReal) (hin : ∀ k : Fin 43, f (Fin.castLE (by decide) k) = g k) (hout : ∀ k : Fin 128, 43 ≤ k.val → f k = 0) :
    ∑ k, f k = ∑ k, g k := by
  have h := Fin.sum_univ_add (a := 43) (b := 85) f
  refine h.trans ?_
  rw [Finset.sum_eq_zero (s := (Finset.univ : Finset (Fin 85))) fun k _ => hout _ (by show 43 ≤ 43 + k.val; omega), add_zero]
  exact Finset.sum_congr rfl fun k _ => hin k

/-- A largest entry over 128 lanes of which those from 43 on are at most the first. -/
theorem top_pad (f : Fin 128 → EReal) (g : Fin 43 → EReal) (hin : ∀ k : Fin 43, f (Fin.castLE (by decide) k) = g k) (hout : ∀ k : Fin 128, 43 ≤ k.val → f k ≤ g 0) :
    top f = top g := by
  refine le_antisymm (top_le _ _ fun k => ?_) (top_le _ _ fun k => ?_)
  · by_cases h : k.val < 43
    · have := hin ⟨k.val, h⟩
      rw [show f k = g ⟨k.val, h⟩ from this]
      exact entry_le_top _ _
    · exact (hout k (by omega)).trans (entry_le_top _ _)
  · rw [← hin k]; exact entry_le_top _ _

/-- The first largest entry likewise. -/
theorem first_pad (f : Fin 128 → EReal) (g : Fin 43 → EReal) (hin : ∀ k : Fin 43, f (Fin.castLE (by decide) k) = g k) (hout : ∀ k : Fin 128, 43 ≤ k.val → f k ≤ g 0) :
    first f = first g := by
  obtain ⟨k, hk, hmin⟩ := exists_first (by decide) g
  rw [first_eq (by decide) g k hk hmin]
  refine first_eq le_rfl f (Fin.castLE (by decide) k) (by rw [hin, top_pad f g hin hout, hk]) fun q hq => ?_
  rw [Fin.le_def]
  show k.val ≤ q.val
  by_cases h : q.val < 43
  · exact Fin.le_def.1 (hmin ⟨q.val, h⟩ (by rw [← hin ⟨q.val, h⟩, ← top_pad f g hin hout]; exact hq))
  · have := k.isLt; omega

/-- The exponential is never negative. -/
theorem exp_nonneg (x : EReal) : 0 ≤ Ideal.exp x := by
  induction x using EReal.rec with
  | bot => exact le_rfl
  | top => exact (le_top : (0 : EReal) ≤ ⊤)
  | coe r => exact EReal.coe_nonneg.2 (Real.exp_pos r).le

/-- Lanes at `⊥` after 43 real ones leave the probabilities of the real ones as they are, and are themselves no more likely than the first, and add
    nothing to `p · log p` when the exponentials' sum is not zero. -/
theorem out_pad (f : Fin 128 → EReal) (g : Fin 43 → EReal) (hin : ∀ k : Fin 43, f (Fin.castLE (by decide) k) = g k) (hout : ∀ k : Fin 128, 43 ≤ k.val → f k = ⊥) (k : Nat) :
    out f k = out g k := by
  have htop : top f = top g := top_pad f g hin fun k h => by rw [hout k h]; exact bot_le
  have hein : ∀ k : Fin 43, expo f (Fin.castLE (by decide) k) = expo g k := fun k => by unfold expo; rw [hin, htop]
  have heout : ∀ k : Fin 128, 43 ≤ k.val → expo f k = 0 := fun k h => by
    unfold expo; rw [hout k h, EReal.bot_sub]; rfl
  have hsum : ∑ q, expo f q = ∑ q, expo g q := sum_pad _ _ hein heout
  have hpin : ∀ k : Fin 43, soft f (Fin.castLE (by decide) k) = soft g k := fun k => by unfold soft; rw [hein, hsum]
  by_cases h0 : ∑ q, expo g q = 0
  · have hg : ∀ k, expo g k = 0 := fun k => (Finset.sum_eq_zero_iff_of_nonneg fun q _ => exp_nonneg _).1 h0 k (Finset.mem_univ k)
    have hdiv : Ideal.div 0 0 = ⊥ := by unfold Ideal.div; rw [if_pos rfl, if_neg (lt_irrefl _)]
    have hpg : ∀ k, soft g k = ⊥ := fun k => by unfold soft; rw [h0, hg, hdiv]
    have hpf : ∀ k, soft f k = ⊥ := fun k => by
      by_cases h : k.val < 43
      · exact (hpin ⟨k.val, h⟩).trans (hpg _)
      · unfold soft; rw [hsum, h0, heout k (by omega), hdiv]
    have hlogf : plogp (soft f) = plogp (soft g) := by
      have hterm : ∀ e : EReal, (⊥ : EReal) * Ideal.log (⊥ + e) = ⊤ := fun e => by rw [EReal.bot_add]; exact EReal.bot_mul_bot
      have hall : ∀ {j : Nat} (hj : 0 < j) (p : Fin j → EReal), (∀ k, p k = ⊥) → plogp p = ⊤ := fun {j} hj p hp => by
        unfold plogp
        refine top_le_iff.1 ?_
        refine le_trans (le_of_eq ?_) (Finset.single_le_sum (f := fun k : Fin j => p k * Ideal.log (p k + Ideal.ofBits .f32 0x2EDBE6FF#32)) (fun k _ => ?_) (Finset.mem_univ ⟨0, hj⟩))
        · rw [hp, hterm]
        · rw [hp, hterm]; exact _root_.le_top
      rw [hall (by decide) _ hpf, hall (by decide) _ hpg]
    unfold out high
    rw [hlogf, first_pad _ _ hpin fun k _ => by rw [hpf k]; exact bot_le]
  · have hpout : ∀ k : Fin 128, 43 ≤ k.val → soft f k = 0 := fun k h => by
      unfold soft Ideal.div; rw [heout k h, hsum, if_neg h0, zero_mul]
    have hpos : 0 ≤ ∑ q, expo g q := Finset.sum_nonneg fun q _ => exp_nonneg _
    have hnn : 0 ≤ soft g 0 := by
      unfold soft Ideal.div; rw [if_neg h0]
      exact mul_nonneg (exp_nonneg _) (EReal.inv_nonneg_of_nonneg hpos)
    have hlog : plogp (soft f) = plogp (soft g) :=
      sum_pad _ _ (fun k => by rw [hpin]) fun k h => by rw [hpout k h, zero_mul]
    unfold out high
    rw [hlog, first_pad _ _ hpin fun k h => by rw [hpout k h]; exact hnn]

/-! ## The reference's spellings -/

/-- Membership in the classes 0 to 8 is a comparison. -/
theorem among9_eq : ∀ k : Fin 43, (Finset.univ.fold IntOp.ori 0#1 fun q : Fin 9 => IntOp.cmpi .eq (BitVec.ofNat 32 k.val) (BitVec.ofNat 32 q.val))
    = IntOp.cmpi .sle (BitVec.ofNat 32 k.val) 8#32 := by decide +kernel

/-- Membership in the classes 9 to 14 is two comparisons. -/
theorem among6_eq : ∀ k : Fin 43, (Finset.univ.fold IntOp.ori 0#1 fun q : Fin 6 => IntOp.cmpi .eq (BitVec.ofNat 32 k.val) (IntOp.addi 9#32 (BitVec.ofNat 32 q.val)))
    = IntOp.andi (IntOp.cmpi .sgt (BitVec.ofNat 32 k.val) 8#32) (IntOp.cmpi .sle (BitVec.ofNat 32 k.val) 14#32) := by decide +kernel

theorem ofBits_100 : Ideal.ofBits .f32 0x42C80000#32 = ((100 : ℝ) : EReal) := by
  simp [Ideal.ofBits, Ideal.ieee, -EReal.coe_mul, -EReal.coe_neg]; norm_num
theorem ofBits_neg100 : Ideal.ofBits .f32 0xC2C80000#32 = ((-100 : ℝ) : EReal) := by
  simp [Ideal.ofBits, Ideal.ieee, -EReal.coe_mul, -EReal.coe_neg]; norm_num
theorem ofBits_200 : Ideal.ofBits .f32 0x43480000#32 = ((200 : ℝ) : EReal) := by
  simp [Ideal.ofBits, Ideal.ieee, -EReal.coe_mul, -EReal.coe_neg]; norm_num
theorem ofBits_bot : Ideal.ofBits .f32 0xFF800000#32 = ⊥ := by
  simp [Ideal.ofBits, Ideal.ieee]

/-- A set bit is one, a clear one zero. -/
theorem uitofp_one : FloatOps.uitofp (F := Ideal) .f32 1#1 = (1 : EReal) := by
  show (((1#1 : BitVec 1).toNat : ℝ) : EReal) = 1
  norm_num
theorem uitofp_zero : FloatOps.uitofp (F := Ideal) .f32 0#1 = (0 : EReal) := by
  show (((0#1 : BitVec 1).toNat : ℝ) : EReal) = 0
  norm_num

/-- `200 · onehot − 100` is the encoded entry. -/
theorem code_eq (a : BitVec 32) (k : Nat) :
    FloatOps.uitofp (F := Ideal) .f32 (IntOp.cmpi .eq a (BitVec.ofNat 32 k)) * Ideal.ofBits .f32 0x43480000#32 - Ideal.ofBits .f32 0x42C80000#32 = code a k := by
  unfold code
  rw [ofBits_100, ofBits_200, ofBits_neg100]
  by_cases h : a = BitVec.ofNat 32 k
  · subst h
    have e : IntOp.cmpi .eq (BitVec.ofNat 32 k) (BitVec.ofNat 32 k) = 1#1 := by simp [IntOp.cmpi]
    rw [e, uitofp_one, one_mul, ← EReal.coe_sub]
    exact (show (((200 - 100 : ℝ) : ℝ) : EReal) = ((100 : ℝ) : EReal) by norm_num).trans (if_pos rfl).symm
  · have e : IntOp.cmpi .eq a (BitVec.ofNat 32 k) = 0#1 := by unfold IntOp.cmpi; rw [beq_eq_false_iff_ne.2 h]; rfl
    have e' : IntOp.cmpi .eq (BitVec.ofNat 32 k) a = 0#1 := by unfold IntOp.cmpi; rw [beq_eq_false_iff_ne.2 (Ne.symm h)]; rfl
    rw [e, e', uitofp_zero, zero_mul, ← EReal.coe_zero, ← EReal.coe_sub]
    exact (show (((0 - 100 : ℝ) : ℝ) : EReal) = ((-100 : ℝ) : EReal) by norm_num).trans (if_neg (by decide)).symm

end Cert.Row
-- ==== Proof.KernelPad.lean ====
/- The padded operands read at one entry: the argument's inside the 43 columns, the fill's outside. -/
module

public import proofs.«01_k».proof.Proof.KernelRun
public import proofs.«01_k».proof.Proof.Row
public import Idealize.ShloMosaic.Lib.Routing.OpsSet
public import Idealize.ShloMosaic.Lib.Routing.OpsPair
public import Idealize.ShloMosaic.Lib.Pointwise.Index
public import Idealize.ShloMosaic.PureOps.Ideal.Laws

@[expose] public section

set_option maxRecDepth 16384

noncomputable section

namespace Cert.KernelIdeal.Val

open Cert.KernelIdeal Cert.KernelIdeal.Gen Idealize.ShloMosaic

/-- Lane `k` of the 128, for a class `k`. -/
abbrev lane (k : Fin 43) : Fin 128 := Fin.castLE (by decide) k

/-- An entry of the weights is written at its own row and column. -/
theorem landsW (j : S128x43.Idx) (ι : S128x128.Idx) :
    scatter_S128x128_S1_S128x43_01_n_1_0.resultIdx? j (broadcastInDim S1 ![] bcast_S_S1 (constantI S_ 32 0#32)) = some ι
      ↔ (j 0).val = (ι 0).val ∧ (j 1).val = (ι 1).val := by
  rw [Routing.resultIdx?_eq_some]
  have h0 : scatter_S128x128_S1_S128x43_01_n_1_0.start j (broadcastInDim S1 ![] bcast_S_S1 (constantI S_ 32 0#32)) 0
      + (scatter_S128x128_S1_S128x43_01_n_1_0.window j 0 : Int) = ((j 0).val : Int) := (zero_add _).trans rfl
  have h1 : scatter_S128x128_S1_S128x43_01_n_1_0.start j (broadcastInDim S1 ![] bcast_S_S1 (constantI S_ 32 0#32)) 1
      + (scatter_S128x128_S1_S128x43_01_n_1_0.window j 1 : Int) = ((j 1).val : Int) := (zero_add _).trans rfl
  constructor
  · intro h
    exact ⟨Int.ofNat.inj (h0.symm.trans (h 0)), Int.ofNat.inj (h1.symm.trans (h 1))⟩
  · rintro ⟨e0, e1⟩ a
    match a with
    | ⟨0, _⟩ => exact h0.trans (congrArg Int.ofNat e0)
    | ⟨1, _⟩ => exact h1.trans (congrArg Int.ofNat e1)

/-- An entry of the bias is written at its own lane. -/
theorem landsB (j : S43.Idx) (ι : S1x128.Idx) :
    scatter_S1x128_S2_S43_0_0_01_0.resultIdx? j
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) = some ι
      ↔ (j 0).val = (ι 1).val := by
  rw [Routing.resultIdx?_eq_some]
  have h0 : scatter_S1x128_S2_S43_0_0_01_0.start j
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) 0 + (scatter_S1x128_S2_S43_0_0_01_0.window j 0 : Int) = 0 := rfl
  have h1 : scatter_S1x128_S2_S43_0_0_01_0.start j
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) 1 + (scatter_S1x128_S2_S43_0_0_01_0.window j 1 : Int) = ((j 0).val : Int) := (zero_add _).trans rfl
  have hι : (ι 0).val = 0 := by have h := (ι 0).isLt; change (ι 0).val < 1 at h; omega
  constructor
  · intro h
    exact Int.ofNat.inj (h1.symm.trans (h 1))
  · intro e a
    match a with
    | ⟨0, _⟩ => exact h0.trans (congrArg Int.ofNat hι.symm)
    | ⟨1, _⟩ => exact h1.trans (congrArg Int.ofNat e)

/-- The padded weights on a class's lane. -/
theorem padW_in (W : FVec Ideal S128x43 .f32) (q : Fin 128) (k : Fin 43) : padW W (ix2 q (lane k)) = W (ix2 q k) := by
  refine Routing.scatter_set_hit _ _ _ _ _ _ (fun j hj => ?_) (ix2 q k) ((landsW _ _).2 ⟨rfl, rfl⟩)
  obtain ⟨h0, h1⟩ := (landsW _ _).1 hj
  refine congrArg W (funext fun a => Fin.ext ?_)
  match a with
  | ⟨0, _⟩ => exact h0
  | ⟨1, _⟩ => exact h1

/-- The padded bias on a class's lane. -/
theorem padB_in (y : FVec Ideal S1x128 .f32) (b : FVec Ideal S43 .f32) (k : Fin 43) : padB y b (ix2 (0 : Fin 1) (lane k)) = b (ix1 k) := by
  refine Routing.scatter_set_hit _ _ _ _ _ _ (fun j hj => ?_) (ix1 k) ((landsB _ _).2 rfl)
  refine congrArg b (funext fun a => Fin.ext ?_)
  match a with
  | ⟨0, _⟩ => exact (landsB _ _).1 hj

/-- The padded bias elsewhere: the row it is written over. -/
theorem padB_out (y : FVec Ideal S1x128 .f32) (b : FVec Ideal S43 .f32) (k : Fin 128) (hk : 43 ≤ k.val) :
    padB y b (ix2 (0 : Fin 1) k) = y (ix2 (0 : Fin 1) k) := by
  refine Routing.scatter_set_miss _ _ _ _ _ fun j hj => ?_
  have h1 := (landsB _ _).1 hj
  have hj := (j 0).isLt
  change (j 0).val < 43 at hj
  change (j 0).val = k.val at h1
  omega

/-- The mask is the least value. -/
theorem mask_bot (i : S1x128.Idx) : k0_pay1 (F := Ideal) i = (⊥ : EReal) := rfl

/-- The result of a row is the same over the padded operands as over the arguments: a padded lane's logit is the least value. -/
theorem pad_row (x : Fin 128 → EReal) (W : FVec Ideal S128x43 .f32) (b : FVec Ideal S43 .f32) (k : Nat) :
    Row.out (Row.logit x (fun q l => padW W (ix2 q l)) fun l => padB (k0_pay1 (F := Ideal)) b (ix2 (0 : Fin 1) l)) k
      = Row.out (Row.logit x (fun q l => W (ix2 q l)) fun l => b (ix1 l)) k := by
  refine Row.out_pad _ _ (fun l => ?_) (fun l hl => ?_) k
  · have hb : padB (k0_pay1 (F := Ideal)) b (ix2 (0 : Fin 1) (lane l)) = b (ix1 l) := padB_in _ b l
    have hW : ∀ q, padW W (ix2 q (lane l)) = W (ix2 q l) := fun q => padW_in W q l
    show ∑ q : Fin 128, x q * padW W (ix2 q (lane l)) + padB (k0_pay1 (F := Ideal)) b (ix2 (0 : Fin 1) (lane l)) = ∑ q : Fin 128, x q * W (ix2 q l) + b (ix1 l)
    rw [hb]
    simp only [hW]
  · show ∑ q : Fin 128, x q * padW W (ix2 q l) + padB (k0_pay1 (F := Ideal)) b (ix2 (0 : Fin 1) l) = ⊥
    rw [padB_out _ b l hl, mask_bot, EReal.add_bot]

end Cert.KernelIdeal.Val
-- ==== Proof.KernelRow.lean ====
/- The second call's payload at `Ideal`, read at one entry of its block: the row function of the block's row. -/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Val

open Cert.KernelIdeal Cert.KernelIdeal.Gen Idealize.ShloMosaic

variable (x : FVec Ideal S4096x128 .f32) (W : FVec Ideal S128x128 .f32) (b : FVec Ideal S1x128 .f32)

/-- The logits of row `r` of a block. -/
abbrev rowLogit (r : Fin 4096) : Fin 128 → EReal := Row.logit (fun q => x (ix2 r q)) (fun q k => W (ix2 q k)) (fun k => b (ix2 (0 : Fin 1) k))

/-- The probabilities of a row. -/
theorem pay2_apply (r : Fin 4096) (k : Fin 128) : k1_pay2 (F := Ideal) x W b (ix2 r k) = Row.soft (rowLogit x W b r) k := by
  pointwise [k1_pay2]
  rw [Row.ofBits_bot]
  rfl

/-- The predicted class of a row. -/
theorem pay3_apply (r : Fin 4096) : k1_pay3 (F := Ideal) x W b (ix2 r (0 : Fin 1)) = Row.first (Row.soft (rowLogit x W b r)) := by
  pointwise [k1_pay3]
  simp only [pay2_apply, Row.ofBits_bot]
  rfl

/-- Whether a row's entropy is above the threshold. -/
theorem pay4_apply (r : Fin 4096) : k1_pay4 (F := Ideal) x W b (ix2 r (0 : Fin 1)) = Row.high (Row.soft (rowLogit x W b r)) := by
  pointwise [k1_pay4]
  simp only [pay2_apply]
  rfl

/-- Whether a row's class is at most 8. -/
theorem pay5_apply (r : Fin 4096) : k1_pay5 (F := Ideal) x W b (ix2 r (0 : Fin 1)) = IntOp.cmpi .sle (Row.first (Row.soft (rowLogit x W b r))) 8#32 := by
  pointwise [k1_pay5]
  rw [pay3_apply]

/-- The stored block. -/
theorem pay_apply (r : Fin 4096) (k : Fin 43) :
    k1_pay1 (F := Ideal) (iota .tc S4096x128 32 [1] iota_S4096x128_d1_w32) (k1_pay3 (F := Ideal) x W b) (k1_pay4 (F := Ideal) x W b) (k1_pay5 (F := Ideal) x W b) (ix2 r k)
      = Row.out (rowLogit x W b r) k.val := by
  pointwise [k1_pay1]
  rw [pay3_apply, pay4_apply, pay5_apply]
  rfl

end Cert.KernelIdeal.Val
-- ==== Proof.KernelValue.lean ====
/- The kernel's result array at `Ideal`: every entry the row function of its row of `x`, read through the second call's blocks. -/
module

public import proofs.«01_k».proof.Proof.KernelRun
public import proofs.«01_k».proof.Proof.KernelRow

@[expose] public section

set_option maxRecDepth 16384

noncomputable section

namespace Cert.KernelIdeal.Val

open Cert.KernelIdeal Cert.KernelIdeal.Gen Idealize.ShloMosaic Idealize.ShloMosaic.TcCoe

variable (V : (c : Dev nD) → (b : Ref sig .tc) → Buf (Elt Ideal) ((c : Thread nD τ).loc b)) (c : Dev nD)

/-- The result array as the row function of every row. -/
def final : FVec Ideal S262144x43 .f32 := fun i =>
  Row.out (Row.logit (fun q => (V c main_arg0 : FVec Ideal S262144x128 .f32) (ix2 (⟨(i 0).val, (i 0).isLt⟩ : Fin 262144) q))
    (fun q l => (V c main_v2 : FVec Ideal S128x128 .f32) (ix2 q l)) fun l => (V c main_v8 : FVec Ideal S1x128 .f32) (ix2 (0 : Fin 1) l)) (i 1).val

/-- Which block each window is on at a point: the point's own rows of `x` and of the result, the whole of the padded operands. -/
theorem block_at : ∀ t : Fin cfg1.N, (win1_0.index t 0 = t.val ∧ win1_0.index t 1 = 0) ∧ (win1_1.index t 0 = 0 ∧ win1_1.index t 1 = 0)
    ∧ (win1_2.index t 0 = 0 ∧ win1_2.index t 1 = 0) ∧ win1_3.index t 0 = t.val ∧ win1_3.index t 1 = 0 :=
  (by decide +kernel : ∀ t : Fin grid1.N, _)

/-- The extents of the result's blocks. -/
theorem extent_at : ∀ t : Fin cfg1.N, win1_3.xsize (grid1.coords t) 0 = 4096 ∧ win1_3.xsize (grid1.coords t) 1 = 43 :=
  (by decide +kernel : ∀ t : Fin grid1.N, _)

/-- A row of the block of `x` is the array's at the block's offset. -/
theorem x_block (t : Fin cfg1.N) (r : Fin 4096) (q : Fin 128) (R : Fin 262144) (hR : R.val = t.val * 4096 + r.val) :
    (iblk1 V c 0 t : FVec Ideal S4096x128 .f32) (ix2 r q) = (V c main_arg0 : FVec Ideal S262144x128 .f32) (ix2 R q) := by
  unfold iblk1
  rw [View.read_apply]
  show V c main_arg0 _ = V c main_arg0 _
  congr 1
  funext a
  apply Fin.ext
  match a with
  | ⟨0, _⟩ => show win1_0.index t 0 * 4096 + 1 * r.val = R.val; rw [(block_at t).1.1, hR]; omega
  | ⟨1, _⟩ => show win1_0.index t 1 * 128 + 1 * q.val = q.val; rw [(block_at t).1.2]; omega

/-- The padded weights' block is the whole matrix. -/
theorem W_block (t : Fin cfg1.N) (q l : Fin 128) :
    (iblk1 V c 1 t : FVec Ideal S128x128 .f32) (ix2 q l) = (V c main_v2 : FVec Ideal S128x128 .f32) (ix2 q l) := by
  unfold iblk1
  rw [View.read_apply]
  show V c main_v2 _ = V c main_v2 _
  congr 1
  funext a
  apply Fin.ext
  match a with
  | ⟨0, _⟩ => show win1_1.index t 0 * 128 + 1 * q.val = q.val; rw [(block_at t).2.1.1]; omega
  | ⟨1, _⟩ => show win1_1.index t 1 * 128 + 1 * l.val = l.val; rw [(block_at t).2.1.2]; omega

/-- The padded bias's block is the whole row. -/
theorem b_block (t : Fin cfg1.N) (l : Fin 128) :
    (iblk1 V c 2 t : FVec Ideal S1x128 .f32) (ix2 (0 : Fin 1) l) = (V c main_v8 : FVec Ideal S1x128 .f32) (ix2 (0 : Fin 1) l) := by
  unfold iblk1
  rw [View.read_apply]
  show V c main_v8 _ = V c main_v8 _
  congr 1
  funext a
  apply Fin.ext
  match a with
  | ⟨0, _⟩ => show win1_2.index t 0 * 1 + 1 * 0 = 0; rw [(block_at t).2.2.1.1]
  | ⟨1, _⟩ => show win1_2.index t 1 * 128 + 1 * l.val = l.val; rw [(block_at t).2.2.1.2]; omega

/-- The stored block of a point, read at an entry. -/
theorem out_at (t : Fin cfg1.N) (j : S4096x43.Idx) (i : S262144x43.Idx) (h0 : (i 0).val = t.val * 4096 + (j 0).val) (h1 : (i 1).val = (j 1).val) :
    out1_3 (F := Ideal) (iblk1 V c 0 t) (iblk1 V c 1 t) (iblk1 V c 2 t) j = final V c i := by
  obtain ⟨r, k, rfl⟩ : ∃ (r : Fin 4096) (k : Fin 43), j = ix2 r k :=
    ⟨⟨(j 0).val, (j 0).isLt⟩, ⟨(j 1).val, (j 1).isLt⟩, funext fun a => Fin.ext (match a with | ⟨0, _⟩ => rfl | ⟨1, _⟩ => rfl)⟩
  unfold out1_3 final
  rw [View.canon_unit_zero hz, View.ld_unit_zero hz, View.ld_unit_zero hz, View.ld_unit_zero hz, pay_apply, h1]
  refine congrArg (fun l => Row.out l k.val) ?_
  unfold rowLogit
  have hx : ∀ q, (iblk1 V c 0 t : FVec Ideal S4096x128 .f32) (ix2 r q)
      = (V c main_arg0 : FVec Ideal S262144x128 .f32) (ix2 (⟨(i 0).val, (i 0).isLt⟩ : Fin 262144) q) := fun q => x_block V c t r q _ h0
  simp only [hx, W_block, b_block]

/-- What a point writes back is its block of `final`. -/
theorem flushed_eq (t : Fin cfg1.N) : (dat1 V c).flushed 3 t = (win1_3.blk t).view.read (Elt Ideal) (final V c) := by
  show (cfg1.win 3).cut (grid1.coords t) ((dat1 V c).after 3 t) = _
  rw [after1_3]
  funext j
  rw [View.read_apply]
  refine out_at V c t _ _ ?_ ?_
  · show win1_3.index t 0 * 4096 + 1 * (j 0).val = t.val * 4096 + (j 0).val
    rw [(block_at t).2.2.2.1]; omega
  · show win1_3.index t 1 * 43 + 1 * (j 1).val = (j 1).val
    rw [(block_at t).2.2.2.2]; omega

/-- Every entry of the result is in some point's block. -/
theorem result_cover (i : S262144x43.Idx) : ∃ t : Fin cfg1.N, (cfg1.win 3).flush t = true ∧ i ∈ ((cfg1.win 3).blk t).view.set := by
  have h0 : (i 0 : Nat) < 262144 := (i 0).isLt
  have h1 : (i 1 : Nat) < 43 := (i 1).isLt
  have hN : cfg1.N = 64 := by decide
  have ht : (i 0 : Nat) / 4096 < cfg1.N := by rw [hN]; omega
  refine ⟨⟨(i 0 : Nat) / 4096, ht⟩, flush1_3 _, ?_⟩
  show i ∈ ((View.whole main_v9).slice (win1_3.rect ⟨(i 0 : Nat) / 4096, ht⟩)).set
  rw [View.set_slice_whole, Rect.mem_set_unit]
  have e := (block_at ⟨(i 0 : Nat) / 4096, ht⟩).2.2.2
  have f := extent_at ⟨(i 0 : Nat) / 4096, ht⟩
  intro a
  match a with
  | ⟨0, _⟩ => show win1_3.index ⟨(i 0 : Nat) / 4096, ht⟩ 0 * 4096 ≤ (i 0 : Nat)
                ∧ (i 0 : Nat) < win1_3.index ⟨(i 0 : Nat) / 4096, ht⟩ 0 * 4096 + win1_3.xsize (grid1.coords ⟨(i 0 : Nat) / 4096, ht⟩) 0
              rw [e.1, f.1]; dsimp only; omega
  | ⟨1, _⟩ => show win1_3.index ⟨(i 0 : Nat) / 4096, ht⟩ 1 * 43 ≤ (i 1 : Nat)
                ∧ (i 1 : Nat) < win1_3.index ⟨(i 0 : Nat) / 4096, ht⟩ 1 * 43 + win1_3.xsize (grid1.coords ⟨(i 0 : Nat) / 4096, ht⟩) 1
              rw [e.2, f.2]; omega

/-- The result array after the second call. -/
theorem arr_eq : (dat1 V c).arrAt 3 cfg1.N = final V c :=
  (dat1 V c).arrAt_eq_of_cover 3 (final V c) (fun t _ => flushed_eq V c t) result_cover

end Cert.KernelIdeal.Val
-- ==== Proof.RefRun.lean ====
/- The reference's run: its 79 host operations as six lists, what each list leaves in the buffers the next one reads,
   and from these the result as one function of the three arguments. -/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The values, stage by stage -/

/-- The logits `x · W + b`. -/
def logits (x : FVec F S262144x128 .f32) (W : FVec F S128x43 .f32) (b : FVec F S43 .f32) : FVec F S262144x43 .f32 :=
  addf (Host.dotGeneral dot_S262144x128_S128x43_S262144x43_1_0_0_1_n_n none x W)
    (broadcastInDim S262144x43 ![0, 1] bcast_S1x43_S262144x43_0_1 (broadcastInDim S1x43 ![1] bcast_S43_S1x43_1 b))

/-- A value per row as a column, repeated along the row. -/
def spread {T : Type} (y : S262144.Idx → T) : S262144x43.Idx → T :=
  broadcastInDim S262144x43 ![0, 1] bcast_S262144x1_S262144x43_0_1 (broadcastInDim S262144x1 ![0] bcast_S262144_S262144x1_0 y)

/-- The largest entry of each row. -/
def rowMax (l : FVec F S262144x43 .f32) : FVec F S262144 .f32 :=
  maximumf (broadcastInDim S262144 ![] bcast_S_S262144 (constant S_ .f32 0xFF800000#32))
    (Host.reduce FloatOps.maximumf l (constant S_ .f32 0xFF800000#32) reducesTo_S262144x43_S262144_d1 h_S_)

/-- The exponentials of the entries less their row's largest. -/
def exps (l : FVec F S262144x43 .f32) : FVec F S262144x43 .f32 := Host.exp (subf l (spread (rowMax l)))

/-- The sum of each row. -/
def rowSum (e : FVec F S262144x43 .f32) : FVec F S262144 .f32 :=
  Host.reduceAdd e (constant S_ .f32 0x00000000#32) reducesTo_S262144x43_S262144_d1 h_S_

/-- The softmax of each row. -/
def softmax (l : FVec F S262144x43 .f32) : FVec F S262144x43 .f32 := Host.divf (exps l) (spread (rowSum (exps l)))

/-- The entropy of each row over `log 43`. -/
def uncertainty (p : FVec F S262144x43 .f32) : FVec F S262144 .f32 :=
  Host.divf (Host.negf (rowSum (mulf p (Host.log (addf p (broadcastInDim S262144x43 ![] bcast_S_S262144x43 (constant S_ .f32 0x2EDBE6FF#32)))))))
    (broadcastInDim S262144 ![] bcast_S_S262144 (Host.log (constant S_ .f32 0x422C0000#32)))

/-- The largest probability of each row, as the paired reduction leaves it. -/
def topValue (p : FVec F S262144x43 .f32) (k : IVec S262144x43 32) (u : FVec F S_ .f32) (v : IVec S_ 32) : FVec F S262144 .f32 :=
  fun j => (Host.argReduce reducer_argmax_f32_i32 p k u v reducesTo_S262144x43_S262144_d1 h_S_ j).1

/-- The second components of a family of pairs. -/
def seconds {ι α β : Type} (f : ι → α × β) : ι → β := fun i => (f i).2

/-- Its position in the row. -/
def topIndex (p : FVec F S262144x43 .f32) (k : IVec S262144x43 32) (u : FVec F S_ .f32) (v : IVec S_ 32) : IVec S262144 32 :=
  seconds (Host.argReduce reducer_argmax_f32_i32 p k u v reducesTo_S262144x43_S262144_d1 h_S_)

/-- The predicted class of each row. -/
def predicted (p : FVec F S262144x43 .f32) : IVec S262144 32 :=
  topIndex p (iotaInDim S262144x43 32 1) (constant S_ .f32 0xFF800000#32) (constantI S_ 32 0#32)

/-- Whether the entropy of each row is above the threshold. -/
def unsure (u : FVec F S262144 .f32) : IVec S262144 1 :=
  cmpf .ogt u (broadcastInDim S262144 ![] bcast_S_S262144 (constant S_ .f32 0x3F19999A#32))

/-- Whether a row's class is among nine listed ones. -/
def among9 (a : IVec S262144 32) (k : IVec S9 32) : IVec S262144 1 :=
  Host.reduce IntOp.ori
    (cmpi .eq (broadcastInDim S262144x9 ![0, 1] bcast_S262144x1_S262144x9_0_1 (broadcastInDim S262144x1 ![0] bcast_S262144_S262144x1_0 a))
      (broadcastInDim S262144x9 ![0, 1] bcast_S1x9_S262144x9_0_1 (broadcastInDim S1x9 ![1] bcast_S9_S1x9_1 k)))
    (constantI S_ 1 0#1) reducesTo_S262144x9_S262144_d1 h_S_

/-- Whether a row's class is among six listed ones. -/
def among6 (a : IVec S262144 32) (k : IVec S6 32) : IVec S262144 1 :=
  Host.reduce IntOp.ori
    (cmpi .eq (broadcastInDim S262144x6 ![0, 1] bcast_S262144x1_S262144x6_0_1 (broadcastInDim S262144x1 ![0] bcast_S262144_S262144x1_0 a))
      (broadcastInDim S262144x6 ![0, 1] bcast_S1x6_S262144x6_0_1 (broadcastInDim S1x6 ![1] bcast_S6_S1x6_1 k)))
    (constantI S_ 1 0#1) reducesTo_S262144x6_S262144_d1 h_S_

/-- The class acted on: 1 for an unsure speed sign, else 14 for an unsure priority sign, else the predicted one. -/
def acted (u : FVec F S262144 .f32) (a : IVec S262144 32) (k₉ : IVec S9 32) (k₆ : IVec S6 32) : IVec S262144 32 :=
  select (andi (unsure u) (among9 a k₉)) (broadcastInDim S262144 ![] bcast_S_S262144 (constantI S_ 32 1#32))
    (select (andi (unsure u) (among6 a k₆)) (broadcastInDim S262144 ![] bcast_S_S262144 (constantI S_ 32 14#32)) a)

/-- The row of 43 values of a class: `200 · onehot − 100`. -/
def encoded (a : IVec S262144 32) : FVec F S262144x43 .f32 :=
  subf (mulf (uitofp .f32 (cmpi .eq (spread a) (broadcastInDim S262144x43 ![0, 1] bcast_S1x43_S262144x43_0_1 (iotaInDim S1x43 32 1))))
      (broadcastInDim S262144x43 ![] bcast_S_S262144x43 (constant S_ .f32 0x43480000#32)))
    (broadcastInDim S262144x43 ![] bcast_S_S262144x43 (constant S_ .f32 0x42C80000#32))

/-- The classes 0 to 8. -/
def speeds : IVec S9 32 := iotaInDim S9 32 0
/-- The classes 9 to 14. -/
def priorities : IVec S6 32 := addi (broadcastInDim S6 ![] bcast_S_S6 (constantI S_ 32 9#32)) (iotaInDim S6 32 0)

/-- The result, from the probabilities. -/
def policy (p : FVec F S262144x43 .f32) : FVec F S262144x43 .f32 :=
  encoded (acted (uncertainty p) (predicted p) speeds priorities)

/-- The result, from the three arguments. -/
def result (x : FVec F S262144x128 .f32) (W : FVec F S128x43 .f32) (b : FVec F S43 .f32) : FVec F S262144x43 .f32 :=
  policy (softmax (logits x W b))

/-! ## The operations -/

/-- The two index lists and the logits `x · W + b`. -/
abbrev opsA : List (HloOp τ sig (Elt F)) :=
  [ nullary main_v0 (iotaInDim S9 32 0),
    nullary main_v1 (iotaInDim S6 32 0),
    nullary main_c (constantI S_ 32 9#32),
    unary main_c main_v2 (broadcastInDim S6 ![] bcast_S_S6 : (⟨S_, .i32⟩ : BufTy).Contents (Elt F) → (⟨S6, .i32⟩ : BufTy).Contents (Elt F)),
    binary main_v2 main_v1 main_v3 (addi : (⟨S6, .i32⟩ : BufTy).Contents (Elt F) → (⟨S6, .i32⟩ : BufTy).Contents (Elt F) → (⟨S6, .i32⟩ : BufTy).Contents (Elt F)),
    binary main_arg0 main_arg1 main_v4 ((fun l r => Host.dotGeneral dot_S262144x128_S128x43_S262144x43_1_0_0_1_n_n none l r) : (⟨S262144x128, .f32⟩ : BufTy).Contents (Elt F) → (⟨S128x43, .f32⟩ : BufTy).Contents (Elt F) → (⟨S262144x43, .f32⟩ : BufTy).Contents (Elt F)),
    unary main_arg2 main_v5 (broadcastInDim S1x43 ![1] bcast_S43_S1x43_1 : (⟨S43, .f32⟩ : BufTy).Contents (Elt F) → (⟨S1x43, .f32⟩ : BufTy).Contents (Elt F)),
    unary main_v5 main_v6 (broadcastInDim S262144x43 ![0, 1] bcast_S1x43_S262144x43_0_1 : (⟨S1x43, .f32⟩ : BufTy).Contents (Elt F) → (⟨S262144x43, .f32⟩ : BufTy).Contents (Elt F)),
    binary main_v4 main_v6 main_v7 (addf : (⟨S262144x43, .f32⟩ : BufTy).Contents (Elt F) → (⟨S262144x43, .f32⟩ : BufTy).Contents (Elt F) → (⟨S262144x43, .f32⟩ : BufTy).Contents (Elt F)) ]

/-- What the operations of `opsA` write. -/
abbrev writesA : List (Ref sig .tc) := [main_v0, main_v1, main_c, main_v2, main_v3, main_v4, main_v5, main_v6, main_v7]
theorem writesA_sub : (opsA : List (HloOp τ sig (Elt F))).Forall fun op => op.writes ⊆ (writesA.map (Proc.devRef (τ := τ) .tc)).toFinset :=
  forall_writes_sub_of_map rfl

theorem opsA_sub : (opsA : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub .., binary_bufs_sub ..⟩

theorem opsA_fresh : (opsA : List (HloOp τ sig (Elt F))).Forall fun op => op.fresh = ∅ := forall_fresh_of_map rfl

/-- The softmax of the logits. -/
abbrev opsB : List (HloOp τ sig (Elt F)) :=
  [ nullary main_cst (constant S_ .f32 0xFF800000#32),
    binary main_v7 main_cst main_v8 ((fun x v => Host.reduce FloatOps.maximumf x v reducesTo_S262144x43_S262144_d1 h_S_) : (⟨S262144x43, .f32⟩ : BufTy).Contents (Elt F) → (⟨S_, .f32⟩ : BufTy).Contents (Elt F) → (⟨S262144, .f32⟩ : BufTy).Contents (Elt F)),
    nullary main_cst_0 (constant S_ .f32 0xFF800000#32),
    unary main_cst_0 main_v9 (broadcastInDim S262144 ![] bcast_S_S262144 : (⟨S_, .f32⟩ : BufTy).Contents (Elt F) → (⟨S262144, .f32⟩ : BufTy).Contents (Elt F)),
    binary main_v9 main_v8 main_v10 (maximumf : (⟨S262144, .f32⟩ : BufTy).Contents (Elt F) → (⟨S262144, .f32⟩ : BufTy).Contents (Elt F) → (⟨S262144, .f32⟩ : BufTy).Contents (Elt F)),
    unary main_v10 main_v11 (broadcastInDim S262144x1 ![0] bcast_S262144_S262144x1_0 : (⟨S262144, .f32⟩ : BufTy).Contents (Elt F) → (⟨S262144x1, .f32⟩ : BufTy).Contents (Elt F)),
    unary main_v11 main_v12 (broadcastInDim S262144x43 ![0, 1] bcast_S262144x1_S262144x43_0_1 : (⟨S262144x1, .f32⟩ : BufTy).Contents (Elt F) → (⟨S262144x43, .f32⟩ : BufTy).Contents (Elt F)),
    binary main_v7 main_v12 main_v13 (subf : (⟨S262144x43, .f32⟩ : BufTy).Contents (Elt F) → (⟨S262144x43, .f32⟩ : BufTy).Contents (Elt F) → (⟨S262144x43, .f32⟩ : BufTy).Contents (Elt F)),
    unary main_v13 main_v14 (Host.exp : (⟨S262144x43, .f32⟩ : BufTy).Contents (Elt F) → (⟨S262144x43, .f32⟩ : BufTy).Contents (Elt F)),
    nullary main_cst_1 (constant S_ .f32 0x00000000#32),
    binary main_v14 main_cst_1 main_v15 ((fun x v => Host.reduceAdd x v reducesTo_S262144x43_S262144_d1 h_S_) : (⟨S262144x43, .f32⟩ : BufTy).Contents (Elt F) → (⟨S_, .f32⟩ : BufTy).Contents (Elt F) → (⟨S262144, .f32⟩ : BufTy).Contents (Elt F)),
    unary main_v15 main_v16 (broadcastInDim S262144x1 ![0] bcast_S262144_S262144x1_0 : (⟨S262144, .f32⟩ : BufTy).Contents (Elt F) → (⟨S262144x1, .f32⟩ : BufTy).Contents (Elt F)),
    unary main_v16 main_v17 (broadcastInDim S262144x43 ![0, 1] bcast_S262144x1_S262144x43_0_1 : (⟨S262144x1, .f32⟩ : BufTy).Contents (Elt F) → (⟨S262144x43, .f32⟩ : BufTy).Contents (Elt F)),
    binary main_v14 main_v17 main_v18 (Host.divf : (⟨S262144x43, .f32⟩ : BufTy).Contents (Elt F) → (⟨S262144x43, .f32⟩ : BufTy).Contents (Elt F) → (⟨S262144x43, .f32⟩ : BufTy).Contents (Elt F)) ]

/-- What the operations of `opsB` write. -/
abbrev writesB : List (Ref sig .tc) := [main_cst, main_v8, main_cst_0, main_v9, main_v10, main_v11, main_v12, main_v13, main_v14, main_cst_1, main_v15, main_v16, main_v17, main_v18]
theorem writesB_sub : (opsB : List (HloOp τ sig (Elt F))).Forall fun op => op.writes ⊆ (writesB.map (Proc.devRef (τ := τ) .tc)).toFinset :=
  forall_writes_sub_of_map rfl

theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsB_fresh : (opsB : List (HloOp τ sig (Elt F))).Forall fun op => op.fresh = ∅ := forall_fresh_of_map rfl

/-- The entropy of the probabilities over `log 43`. -/
abbrev opsC : List (HloOp τ sig (Elt F)) :=
  [ nullary main_cst_2 (constant S_ .f32 0x2EDBE6FF#32),
    unary main_cst_2 main_v19 (broadcastInDim S262144x43 ![] bcast_S_S262144x43 : (⟨S_, .f32⟩ : BufTy).Contents (Elt F) → (⟨S262144x43, .f32⟩ : BufTy).Contents (Elt F)),
    binary main_v18 main_v19 main_v20 (addf : (⟨S262144x43, .f32⟩ : BufTy).Contents (Elt F) → (⟨S262144x43, .f32⟩ : BufTy).Contents (Elt F) → (⟨S262144x43, .f32⟩ : BufTy).Contents (Elt F)),
    unary main_v20 main_v21 (Host.log : (⟨S262144x43, .f32⟩ : BufTy).Contents (Elt F) → (⟨S262144x43, .f32⟩ : BufTy).Contents (Elt F)),
    binary main_v18 main_v21 main_v22 (mulf : (⟨S262144x43, .f32⟩ : BufTy).Contents (Elt F) → (⟨S262144x43, .f32⟩ : BufTy).Contents (Elt F) → (⟨S262144x43, .f32⟩ : BufTy).Contents (Elt F)),
    nullary main_cst_3 (constant S_ .f32 0x00000000#32),
    binary main_v22 main_cst_3 main_v23 ((fun x v => Host.reduceAdd x v reducesTo_S262144x43_S262144_d1 h_S_) : (⟨S262144x43, .f32⟩ : BufTy).Contents (Elt F) → (⟨S_, .f32⟩ : BufTy).Contents (Elt F) → (⟨S262144, .f32⟩ : BufTy).Contents (Elt F)),
    unary main_v23 main_v24 (Host.negf : (⟨S262144, .f32⟩ : BufTy).Contents (Elt F) → (⟨S262144, .f32⟩ : BufTy).Contents (Elt F)),
    nullary main_cst_4 (constant S_ .f32 0x422C0000#32),
    unary main_cst_4 main_v25 (Host.log : (⟨S_, .f32⟩ : BufTy).Contents (Elt F) → (⟨S_, .f32⟩ : BufTy).Contents (Elt F)),
    unary main_v25 main_v26 (broadcastInDim S262144 ![] bcast_S_S262144 : (⟨S_, .f32⟩ : BufTy).Contents (Elt F) → (⟨S262144, .f32⟩ : BufTy).Contents (Elt F)),
    binary main_v24 main_v26 main_v27 (Host.divf : (⟨S262144, .f32⟩ : BufTy).Contents (Elt F) → (⟨S262144, .f32⟩ : BufTy).Contents (Elt F) → (⟨S262144, .f32⟩ : BufTy).Contents (Elt F)) ]

/-- What the operations of `opsC` write. -/
abbrev writesC : List (Ref sig .tc) := [main_cst_2, main_v19, main_v20, main_v21, main_v22, main_cst_3, main_v23, main_v24, main_cst_4, main_v25, main_v26, main_v27]
theorem writesC_sub : (opsC : List (HloOp τ sig (Elt F))).Forall fun op => op.writes ⊆ (writesC.map (Proc.devRef (τ := τ) .tc)).toFinset :=
  forall_writes_sub_of_map rfl

theorem opsC_sub : (opsC : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., nullary_bufs_sub .., unary_bufs_sub .., unary_bufs_sub .., binary_bufs_sub ..⟩

theorem opsC_fresh : (opsC : List (HloOp τ sig (Elt F))).Forall fun op => op.fresh = ∅ := forall_fresh_of_map rfl

/-- The first position of the largest probability. -/
abbrev opsD : List (HloOp τ sig (Elt F)) :=
  [ TRef.nullary (TRef.of (T := ⟨S262144x43, .i32⟩) main_call0_v0) (iotaInDim S262144x43 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S262144x43, .f32⟩) main_v18) (TRef.of (T := ⟨S262144x43, .i32⟩) main_call0_v0) (TRef.of (T := ⟨S_, .f32⟩) main_call0_cst) (TRef.of (T := ⟨S_, .i32⟩) main_call0_c) (TRef.of (T := ⟨S262144, .f32⟩) main_call0_v1_0) topValue,
    TRef.quaternary (TRef.of (T := ⟨S262144x43, .f32⟩) main_v18) (TRef.of (T := ⟨S262144x43, .i32⟩) main_call0_v0) (TRef.of (T := ⟨S_, .f32⟩) main_call0_cst) (TRef.of (T := ⟨S_, .i32⟩) main_call0_c) (TRef.of (T := ⟨S262144, .i32⟩) main_v28) topIndex ]

/-- What the operations of `opsD` write. -/
abbrev writesD : List (Ref sig .tc) := [main_call0_v0, main_call0_cst, main_call0_c, main_call0_v1_0, main_v28]
theorem writesD_sub : (opsD : List (HloOp τ sig (Elt F))).Forall fun op => op.writes ⊆ (writesD.map (Proc.devRef (τ := τ) .tc)).toFinset :=
  forall_writes_sub_of_map rfl

theorem opsD_sub : (opsD : List (HloOp τ sig (Elt F))).Forall fun op => op.bufs ⊆ tcRefs τ sig :=
  ⟨nullary_bufs_sub .., nullary_bufs_sub .., nullary_bufs_sub .., quaternary_bufs_sub .., quaternary_bufs_sub ..⟩

theorem opsD_fresh : (opsD : List (HloOp τ sig (Elt F))).Forall fun op => op.fresh = ∅ := forall_fresh_of_map rfl

/-- The fallback: class 1 or class 14 where the entropy is above 0.6. -/
abbrev opsE : List (HloOp τ sig (Elt F)) :=
  [ nullary main_cst_5 (constant S_ .f32 0x3F19999A#32),
    unary main_cst_5 main_v29 (broadcastInDim S262144 ![] bcast_S_S262144 : (⟨S_, .f32⟩ : BufTy).Contents (Elt F) → (⟨S262144, .f32⟩ : BufTy).Contents (Elt F)),
    binary main_v27 main_v29 main_v30 (cmpf .ogt : (⟨S262144, .f32⟩ : BufTy).Contents (Elt F) → (⟨S262144, .f32⟩ : BufTy).Contents (Elt F) → (⟨S262144, .i1⟩ : BufTy).Contents (Elt F)),
    TRef.unary (TRef.of (T := ⟨S262144, .i32⟩) main_v28) (TRef.of (T := ⟨S262144x1, .i32⟩) main_call1_v0) (broadcastInDim S262144x1 ![0] bcast_S262144_S262144x1_0),
    TRef.unary (TRef.of (T := ⟨S9, .i32⟩) main_v0) (TRef.of (T := ⟨S1x9, .i32⟩) main_call1_v1) (broadcastInDim S1x9 ![1] bcast_S9_S1x9_1),
    TRef.unary (TRef.of (T := ⟨S262144x1, .i32⟩) main_call1_v0) (TRef.of (T := ⟨S262144x9, .i32⟩) main_call1_v2) (broadcastInDim S262144x9 ![0, 1] bcast_S262144x1_S262144x9_0_1),
    TRef.unary (TRef.of (T := ⟨S1x9, .i32⟩) main_call1_v1) (TRef.of (T := ⟨S262144x9, .i32⟩) main_call1_v3) (broadcastInDim S262144x9 ![0, 1] bcast_S1x9_S262144x9_0_1),
    TRef.binary (TRef.of (T := ⟨S262144x9, .i32⟩) main_call1_v2) (TRef.of (T := ⟨S262144x9, .i32⟩) main_call1_v3) (TRef.of (T := ⟨S262144x9, .i1⟩) main_call1_v4) (cmpi .eq),
    TRef.nullary (TRef.of (T := ⟨S_, .i1⟩) main_call1_c) (constantI S_ 1 0#1),
    TRef.binary (TRef.of (T := ⟨S262144x9, .i1⟩) main_call1_v4) (TRef.of (T := ⟨S_, .i1⟩) main_call1_c) (TRef.of (T := ⟨S262144, .i1⟩) main_v31) (fun x v => Host.reduce IntOp.ori x v reducesTo_S262144x9_S262144_d1 h_S_),
    TRef.unary (TRef.of (T := ⟨S262144, .i32⟩) main_v28) (TRef.of (T := ⟨S262144x1, .i32⟩) main_call2_v0) (broadcastInDim S262144x1 ![0] bcast_S262144_S262144x1_0),
    TRef.unary (TRef.of (T := ⟨S6, .i32⟩) main_v3) (TRef.of (T := ⟨S1x6, .i32⟩) main_call2_v1) (broadcastInDim S1x6 ![1] bcast_S6_S1x6_1),
    TRef.unary (TRef.of (T := ⟨S262144x1, .i32⟩) main_call2_v0) (TRef.of (T := ⟨S262144x6, .i32⟩) main_call2_v2) (broadcastInDim S262144x6 ![0, 1] bcast_S262144x1_S262144x6_0_1),
    TRef.unary (TRef.of (T := ⟨S1x6, .i32⟩) main_call2_v1) (TRef.of (T := ⟨S262144x6, .i32⟩) main_call2_v3) (broadcastInDim S262144x6 ![0, 1] bcast_S1x6_S262144x6_0_1),
    TRef.binary (TRef.of (T := ⟨S262144x6, .i32⟩) main_call2_v2) (TRef.of (T := ⟨S262144x6, .i32⟩) main_call2_v3) (TRef.of (T := ⟨S262144x6, .i1⟩) main_call2_v4) (cmpi .eq),
    TRef.nullary (TRef.of (T := ⟨S_, .i1⟩) main_call2_c) (constantI S_ 1 0#1),
    TRef.binary (TRef.of (T := ⟨S262144x6, .i1⟩) main_call2_v4) (TRef.of (T := ⟨S_, .i1⟩) main_call2_c) (TRef.of (T := ⟨S262144, .i1⟩) main_v32) (fun x v => Host.reduce IntOp.ori x v reducesTo_S262144x6_S262144_d1 h_S_),
    binary main_v30 main_v31 main_v33 (andi : (⟨S262144, .i1⟩ : BufTy).Contents (Elt F) → (⟨S262144, .i1⟩ : BufTy).Contents (Elt F) → (⟨S262144, .i1⟩ : BufTy).Contents (Elt F)),
    binary main_v30 main_v32 main_v34 (andi : (⟨S262144, .i1⟩ : BufTy).Contents (Elt F) → (⟨S262144, .i1⟩ : BufTy).Contents (Elt F) → (⟨S262144, .i1⟩ : BufTy).Contents (Elt F)),
    nullary main_c_6 (constantI S_ 32 14#32),
    TRef.unary (TRef.of (T := ⟨S_, .i32⟩) main_c_6) (TRef.of (T := ⟨S_, .i32⟩) main_call3_v0) id,
    TRef.unary (TRef.of (T := ⟨S_, .i32⟩) main_call3_v0) (TRef.of (T := ⟨S262144, .i32⟩) main_call3_v1) (broadcastInDim S262144 ![] bcast_S_S262144),
    TRef.ternary (TRef.of (T := ⟨S262144, .i1⟩) main_v34) (TRef.of (T := ⟨S262144, .i32⟩) main_call3_v1) (TRef.of (T := ⟨S262144, .i32⟩) main_v28) (TRef.of (T := ⟨S262144, .i32⟩) main_v35) select,
    nullary main_c_7 (constantI S_ 32 1#32),
    TRef.unary (TRef.of (T := ⟨S_, .i32⟩) main_c_7) (TRef.of (T := ⟨S_, .i32⟩) main_call4_v0) id,
    TRef.unary (TRef.of (T := ⟨S_, .i32⟩) main_call4_v0) (TRef.of (T := ⟨S262144, .i32⟩) main_call4_v1) (broadcastInDim S262144 ![] bcast_S_S262144),
    TRef.ternary (TRef.of (T := ⟨S262144, .i1⟩) main_v33) (TRef.of (T := ⟨S262144, .i32⟩) main_call4_v1) (TRef.of (T := ⟨S262144, .i32⟩) main_v35) (TRef.of (T := ⟨S262144, .i32⟩) main_v36) select ]

/-- What the operations of `opsE` write. -/
abbrev writesE : List (Ref sig .tc) := [main_cst_5, main_v29, main_v30, main_call1_v0, main_call1_v1, main_call1_v2, main_call1_v3, main_call1_v4, main_call1_c, main_v31, main_call2_v0, main_call2_v1, main_call2_v2, main_call2_v3, main_call2_v4, main_call2_c, main_v32, main_v33, main_v34, main_c_6, main_call3_v0, main_call3_v1, main_v35, main_c_7, main_call4_v0, main_call4_v1, main_v36]
theorem writesE_sub : (opsE : List (HloOp τ sig (Elt F))).Forall fun op => op.writes ⊆ (writesE.map (Proc.devRef (τ := τ) .tc)).toFinset :=
  forall_writes_sub_of_map rfl

theorem opsE_sub : (opsE : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., binary_bufs_sub .., nullary_bufs_sub .., binary_bufs_sub .., binary_bufs_sub .., binary_bufs_sub .., nullary_bufs_sub .., unary_bufs_sub .., unary_bufs_sub .., ternary_bufs_sub .., nullary_bufs_sub .., unary_bufs_sub .., unary_bufs_sub .., ternary_bufs_sub ..⟩

theorem opsE_fresh : (opsE : List (HloOp τ sig (Elt F))).Forall fun op => op.fresh = ∅ := forall_fresh_of_map rfl

/-- The class as a row of 43 values, 100 at it and −100 elsewhere. -/
abbrev opsG : List (HloOp τ sig (Elt F)) :=
  [ TRef.unary (TRef.of (T := ⟨S262144, .i32⟩) main_v36) (TRef.of (T := ⟨S262144x1, .i32⟩) main_call5_v0) (broadcastInDim S262144x1 ![0] bcast_S262144_S262144x1_0),
    TRef.nullary (TRef.of (T := ⟨S1x43, .i32⟩) main_call5_v1) (iotaInDim S1x43 32 1),
    TRef.unary (TRef.of (T := ⟨S262144x1, .i32⟩) main_call5_v0) (TRef.of (T := ⟨S262144x43, .i32⟩) main_call5_v2) (broadcastInDim S262144x43 ![0, 1] bcast_S262144x1_S262144x43_0_1),
    TRef.unary (TRef.of (T := ⟨S1x43, .i32⟩) main_call5_v1) (TRef.of (T := ⟨S262144x43, .i32⟩) main_call5_v3) (broadcastInDim S262144x43 ![0, 1] bcast_S1x43_S262144x43_0_1),
    TRef.binary (TRef.of (T := ⟨S262144x43, .i32⟩) main_call5_v2) (TRef.of (T := ⟨S262144x43, .i32⟩) main_call5_v3) (TRef.of (T := ⟨S262144x43, .i1⟩) main_call5_v4) (cmpi .eq),
    TRef.unary (TRef.of (T := ⟨S262144x43, .i1⟩) main_call5_v4) (TRef.of (T := ⟨S262144x43, .f32⟩) main_v37) (uitofp .f32),
    nullary main_cst_8 (constant S_ .f32 0x43480000#32),
    unary main_cst_8 main_v38 (broadcastInDim S262144x43 ![] bcast_S_S262144x43 : (⟨S_, .f32⟩ : BufTy).Contents (Elt F) → (⟨S262144x43, .f32⟩ : BufTy).Contents (Elt F)),
    binary main_v37 main_v38 main_v39 (mulf : (⟨S262144x43, .f32⟩ : BufTy).Contents (Elt F) → (⟨S262144x43, .f32⟩ : BufTy).Contents (Elt F) → (⟨S262144x43, .f32⟩ : BufTy).Contents (Elt F)),
    nullary main_cst_9 (constant S_ .f32 0x42C80000#32),
    unary main_cst_9 main_v40 (broadcastInDim S262144x43 ![] bcast_S_S262144x43 : (⟨S_, .f32⟩ : BufTy).Contents (Elt F) → (⟨S262144x43, .f32⟩ : BufTy).Contents (Elt F)),
    binary main_v39 main_v40 main_v41 (subf : (⟨S262144x43, .f32⟩ : BufTy).Contents (Elt F) → (⟨S262144x43, .f32⟩ : BufTy).Contents (Elt F) → (⟨S262144x43, .f32⟩ : BufTy).Contents (Elt F)) ]

/-- What the operations of `opsG` write. -/
abbrev writesG : List (Ref sig .tc) := [main_call5_v0, main_call5_v1, main_call5_v2, main_call5_v3, main_call5_v4, main_v37, main_cst_8, main_v38, main_v39, main_cst_9, main_v40, main_v41]
theorem writesG_sub : (opsG : List (HloOp τ sig (Elt F))).Forall fun op => op.writes ⊆ (writesG.map (Proc.devRef (τ := τ) .tc)).toFinset :=
  forall_writes_sub_of_map rfl

theorem opsG_sub : (opsG : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub ..⟩

theorem opsG_fresh : (opsG : List (HloOp τ sig (Elt F))).Forall fun op => op.fresh = ∅ := forall_fresh_of_map rfl

/-- @main's operations, in order. -/
abbrev ops : List (HloOp τ sig (Elt F)) := opsA ++ (opsB ++ (opsC ++ (opsD ++ (opsE ++ opsG))))

set_option maxHeartbeats 4000000 in
/-- @main is the line of its operations. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- What holds of every operation of each list holds of every operation of the lists together. -/
theorem forall_append {α : Type*} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- Every operation touches only the core's own buffers. -/
theorem ops_sub : (ops : List (HloOp τ sig (Elt F))).Forall fun op => op.bufs ⊆ tcRefs τ sig :=
  forall_append opsA_sub (forall_append opsB_sub (forall_append opsC_sub (forall_append opsD_sub (forall_append opsE_sub opsG_sub))))

/-- Every operation determines its results. -/
theorem ops_fresh : (ops : List (HloOp τ sig (Elt F))).Forall fun op => op.fresh = ∅ :=
  forall_append opsA_fresh (forall_append opsB_fresh (forall_append opsC_fresh (forall_append opsD_fresh (forall_append opsE_fresh opsG_fresh))))

/-- The contents after two lists are the second's over the first's. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-! ## What each list leaves -/

variable (V : Valuation τ sig (Elt F))

theorem logits_eq : after opsA V (Proc.devRef .tc main_v7)
    = logits (V (Proc.devRef .tc main_arg0)) (V (Proc.devRef .tc main_arg1)) (V (Proc.devRef .tc main_arg2)) := by
  after_results_simp <;> rfl
theorem speeds_eq : after opsA V (Proc.devRef .tc main_v0) = speeds := by
  after_results_simp <;> rfl
theorem priorities_eq : after opsA V (Proc.devRef .tc main_v3) = priorities := by
  after_results_simp <;> rfl
theorem softmax_eq : after opsB V (Proc.devRef .tc main_v18) = softmax (V (Proc.devRef .tc main_v7)) := by
  after_results_simp <;> rfl
theorem uncertainty_eq : after opsC V (Proc.devRef .tc main_v27) = uncertainty (V (Proc.devRef .tc main_v18)) := by
  after_results_simp <;> rfl
theorem predicted_eq : after opsD V (Proc.devRef .tc main_v28) = predicted (V (Proc.devRef .tc main_v18)) := by
  simp only [opsD, TRef.nullary, TRef.quaternary, TRef.toBuf, TRef.ofBuf, cast_eq]
  after_results_simp <;> rfl
theorem acted_eq : after opsE V (Proc.devRef .tc main_v36)
    = acted (V (Proc.devRef .tc main_v27)) (V (Proc.devRef .tc main_v28)) (V (Proc.devRef .tc main_v0)) (V (Proc.devRef .tc main_v3)) := by
  simp only [opsE, TRef.binary, TRef.nullary, TRef.ternary, TRef.unary, TRef.toBuf, TRef.ofBuf, cast_eq]
  after_results_simp <;> rfl
theorem encoded_eq : after opsG V (Proc.devRef .tc main_v41) = encoded (V (Proc.devRef .tc main_v36)) := by
  simp only [opsG, TRef.binary, TRef.nullary, TRef.unary, TRef.toBuf, TRef.ofBuf, cast_eq]
  after_results_simp <;> rfl

/-- A buffer none of the lists writes keeps its contents. -/
theorem kept (r : Ref sig .tc) (hA : r ∉ writesA) (hB : r ∉ writesB) (hC : r ∉ writesC) (hD : r ∉ writesD) (hE : r ∉ writesE) (hG : r ∉ writesG) :
    after ops V (Proc.devRef .tc r) = V (Proc.devRef .tc r) := by
  simp only [ops, after_two]
  rw [after_of_writes_sub _ _ writesG_sub hG, after_of_writes_sub _ _ writesE_sub hE, after_of_writes_sub _ _ writesD_sub hD,
    after_of_writes_sub _ _ writesC_sub hC, after_of_writes_sub _ _ writesB_sub hB, after_of_writes_sub _ _ writesA_sub hA]

/-- The result buffer ends at the result of the arguments' contents. -/
theorem result_eq : after ops V (Proc.devRef .tc main_v41)
    = result (V (Proc.devRef .tc main_arg0)) (V (Proc.devRef .tc main_arg1)) (V (Proc.devRef .tc main_arg2)) := by
  simp only [ops, after_two]
  rw [encoded_eq, acted_eq, predicted_eq,
    after_of_writes_sub _ _ writesD_sub (r := main_v27) (by decide), after_of_writes_sub _ _ writesD_sub (r := main_v0) (by decide),
    after_of_writes_sub _ _ writesD_sub (r := main_v3) (by decide),
    uncertainty_eq, after_of_writes_sub _ _ writesC_sub (r := main_v18) (by decide), after_of_writes_sub _ _ writesC_sub (r := main_v0) (by decide),
    after_of_writes_sub _ _ writesC_sub (r := main_v3) (by decide),
    softmax_eq, after_of_writes_sub _ _ writesB_sub (r := main_v0) (by decide), after_of_writes_sub _ _ writesB_sub (r := main_v3) (by decide),
    logits_eq, speeds_eq, priorities_eq]
  rfl

/-- Every weakly fair execution of the reference terminates with the result buffer at `result` of the arguments, the
    arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v41)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨(h c main_v41).trans (result_eq _),
      (h c main_arg0).trans (kept _ main_arg0 (by decide) (by decide) (by decide) (by decide) (by decide) (by decide)),
      (h c main_arg1).trans (kept _ main_arg1 (by decide) (by decide) (by decide) (by decide) (by decide) (by decide)),
      (h c main_arg2).trans (kept _ main_arg2 (by decide) (by decide) (by decide) (by decide) (by decide) (by decide))⟩,
      sem_eq_zero_of_no_sems (by decide) r.2⟩)
    (run_seq scopedRefs_eq scopedSems_eq defs main (fun _ => ops) main_eq (fun _ => ops_sub) m ρ
      (fun _ => List.forall_iff_forall_mem.mp ops_fresh))

end Cert.ReferenceIdeal.Run

end
-- ==== Proof.RefRead.lean ====
/- The stages of the reference's result at `Ideal`, each read at one index. -/
module

public import proofs.«01_k».proof.Proof.RefRun
public import Idealize.ShloMosaic.Lib.Pointwise
public import Idealize.ShloMosaic.PureOps.Ideal.Laws

@[expose] public section

set_option maxRecDepth 16384

noncomputable section

namespace Cert.ReferenceIdeal.Run

open Cert.ReferenceIdeal Cert.ReferenceIdeal.Gen Idealize.ShloMosaic

/-- A logit: the row's product with the column, plus the column's bias. -/
theorem logits_apply (x : FVec Ideal S262144x128 .f32) (W : FVec Ideal S128x43 .f32) (b : FVec Ideal S43 .f32) (r : Fin 262144) (k : Fin 43) :
    logits x W b (ix2 r k) = ∑ q : Fin 128, x (ix2 r q) * W (ix2 q k) + b (ix1 k) := by
  pointwise [logits]

/-- A column repeated along the row, read. -/
theorem spread_apply {T : Type} (y : S262144.Idx → T) (r : Fin 262144) (k : Fin 43) : spread y (ix2 r k) = y (ix1 r) := by
  pointwise [spread]

/-- The larger of two vectors, read. -/
theorem maximumf_at (a y : FVec Ideal S262144 .f32) (i : S262144.Idx) : maximumf a y i = max (a i) (y i) := rfl

/-- A quotient, read. -/
theorem hostDivf_at (a y : FVec Ideal S262144x43 .f32) (i : S262144x43.Idx) : Host.divf a y i = Ideal.div (a i) (y i) := rfl

/-- A row's largest entry, before the comparison with the least value. -/
theorem reduceMax_apply (l : FVec Ideal S262144x43 .f32) (r : Fin 262144) :
    Host.reduce (FloatOps.maximumf (F := Ideal) (φ := .f32)) l (constant S_ .f32 0xFF800000#32) reducesTo_S262144x43_S262144_d1 h_S_ (ix1 r)
      = Finset.univ.fold max (Ideal.ofBits .f32 0xFF800000#32) fun k : Fin 43 => l (ix2 r k) := by
  rw [Host.reduce_eq_fold_single _ _ _ _ (by decide : S262144x43.Reduces [1] S262144)]
  have hf : ∀ k : Fin 43, Shape.Reduces.lift (by decide : S262144x43.Reduces [1] S262144) (ix1 r) k = ix2 r k := fun k => by
    funext a
    apply Fin.ext
    match a with
    | ⟨0, _⟩ => rfl
    | ⟨1, _⟩ => rfl
  have hg : (l ∘ Shape.Reduces.lift (by decide : S262144x43.Reduces [1] S262144) (ix1 r)) = fun k : Fin 43 => l (ix2 r k) := funext fun k => congrArg l (hf k)
  rw [hg]
  rfl

/-- A row's largest entry. -/
theorem rowMax_apply (l : FVec Ideal S262144x43 .f32) (r : Fin 262144) :
    rowMax l (ix1 r) = max (Ideal.ofBits .f32 0xFF800000#32) (Finset.univ.fold max (Ideal.ofBits .f32 0xFF800000#32) fun k : Fin 43 => l (ix2 r k)) := by
  rw [← reduceMax_apply]
  unfold rowMax
  generalize Host.reduce (FloatOps.maximumf (F := Ideal) (φ := .f32)) l (constant S_ .f32 0xFF800000#32) reducesTo_S262144x43_S262144_d1 h_S_ = y
  exact maximumf_at _ y (ix1 r)

/-- A row's sum. -/
theorem rowSum_apply (l : FVec Ideal S262144x43 .f32) (r : Fin 262144) : rowSum l (ix1 r) = ∑ k : Fin 43, l (ix2 r k) := by
  pointwise [rowSum]

/-- An exponential of a row. -/
theorem exps_apply (l : FVec Ideal S262144x43 .f32) (r : Fin 262144) (k : Fin 43) :
    exps l (ix2 r k) = Ideal.exp (l (ix2 r k) - rowMax l (ix1 r)) := by
  have h : exps l (ix2 r k) = Ideal.exp (l (ix2 r k) - spread (rowMax l) (ix2 r k)) := rfl
  rw [h, spread_apply]

/-- A probability. -/
theorem softmax_apply (l : FVec Ideal S262144x43 .f32) (r : Fin 262144) (k : Fin 43) :
    softmax l (ix2 r k) = Ideal.div (exps l (ix2 r k)) (∑ q : Fin 43, exps l (ix2 r q)) := by
  rw [softmax, hostDivf_at, spread_apply, rowSum_apply]

/-- Whether a row's entropy is above the threshold. -/
theorem unsure_apply (p : FVec Ideal S262144x43 .f32) (r : Fin 262144) :
    unsure (uncertainty p) (ix1 r) = BitVec.ofBool (decide (Ideal.ofBits .f32 0x3F19999A#32
      < Ideal.div (-∑ k : Fin 43, p (ix2 r k) * Ideal.log (p (ix2 r k) + Ideal.ofBits .f32 0x2EDBE6FF#32)) (Ideal.log (Ideal.ofBits .f32 0x422C0000#32)))) := by
  pointwise [uncertainty, unsure, rowSum]

/-- The class acted on in a row, over folds of the comparisons with the listed classes. -/
theorem acted_apply (u : FVec Ideal S262144 .f32) (a : IVec S262144 32) (r : Fin 262144) :
    acted u a speeds priorities (ix1 r)
      = Scalar.select (IntOp.andi (unsure u (ix1 r)) (Finset.univ.fold IntOp.ori 0#1 fun k : Fin 9 => IntOp.cmpi .eq (a (ix1 r)) (BitVec.ofNat 32 k.val))) 1#32
          (Scalar.select (IntOp.andi (unsure u (ix1 r)) (Finset.univ.fold IntOp.ori 0#1 fun k : Fin 6 => IntOp.cmpi .eq (a (ix1 r)) (IntOp.addi 9#32 (BitVec.ofNat 32 k.val)))) 14#32
            (a (ix1 r))) := by
  pointwise [acted, speeds, priorities, among9, among6]

/-- An entry of the encoded row. -/
theorem encoded_apply (a : IVec S262144 32) (r : Fin 262144) (k : Fin 43) :
    encoded (F := Ideal) a (ix2 r k)
      = FloatOps.uitofp (F := Ideal) .f32 (IntOp.cmpi .eq (a (ix1 r)) (BitVec.ofNat 32 k.val)) * Ideal.ofBits .f32 0x43480000#32
          - Ideal.ofBits .f32 0x42C80000#32 := by
  pointwise [encoded, spread]

end Cert.ReferenceIdeal.Run
-- ==== Proof.RefPred.lean ====
/- The reference's predicted class at one row: the paired reduction leaves the first index of a largest probability. -/
module

public import proofs.«01_k».proof.Proof.RefRun
public import proofs.«01_k».proof.Proof.Row
public import Idealize.ShloMosaic.Lib.Pointwise.Index
public import Idealize.ShloMosaic.PureOps.Ideal.Laws

@[expose] public section

set_option maxRecDepth 16384

noncomputable section

namespace Cert.ReferenceIdeal.Run

open Cert.ReferenceIdeal Cert.ReferenceIdeal.Gen Idealize.ShloMosaic

/-- `q` loses to `r`: a smaller value, or the same value and an index no smaller. -/
def Beats (q r : EReal × BitVec 32) : Prop := q.1 < r.1 ∨ (q.1 = r.1 ∧ r.2.toInt ≤ q.2.toInt)

theorem Beats.refl (q : EReal × BitVec 32) : Beats q q := .inr ⟨rfl, le_rfl⟩

theorem Beats.trans {a b c : EReal × BitVec 32} (h : Beats a b) (h' : Beats b c) : Beats a c := by
  rcases h with h | ⟨h, i⟩ <;> rcases h' with h' | ⟨h', i'⟩
  · exact .inl (h.trans h')
  · exact .inl (h' ▸ h)
  · exact .inl (h ▸ h')
  · exact .inr ⟨h.trans h', i'.trans i⟩

/-- The paired body takes one of its two pairs, and both lose to the one it takes. -/
theorem body_spec (a b : EReal × BitVec 32) :
    (reducer_argmax_f32_i32 (F := Ideal) a b = a ∨ reducer_argmax_f32_i32 (F := Ideal) a b = b)
      ∧ Beats a (reducer_argmax_f32_i32 (F := Ideal) a b) ∧ Beats b (reducer_argmax_f32_i32 (F := Ideal) a b) := by
  obtain ⟨x, i⟩ := a
  obtain ⟨y, j⟩ := b
  have e : reducer_argmax_f32_i32 (F := Ideal) (x, i) (y, j)
      = if y < x then (x, i) else if x = y ∧ i.toInt < j.toInt then (y, i) else (y, j) := by
    have hs : ∀ c : Bool, (BitVec.ofBool c = 1) = (c = true) := fun c => by cases c <;> simp
    have ho : ∀ c d : Bool, BitVec.ofBool c ||| BitVec.ofBool d = BitVec.ofBool (c || d) := by decide
    have ha : ∀ c d : Bool, BitVec.ofBool c &&& BitVec.ofBool d = BitVec.ofBool (c && d) := by decide
    unfold reducer_argmax_f32_i32
    simp only [Ideal.cmpf_def, Ideal.cmp, IntOp.cmpi, IntOp.ori, IntOp.andi, Scalar.select, ne_eq, not_true_eq_false, decide_false, ho, ha, hs, Bool.or_false,
      Bool.or_eq_true, Bool.and_eq_true, decide_eq_true_eq, BitVec.slt_iff_toInt_lt]
    by_cases h1 : y < x
    · rw [if_pos h1, if_pos h1, if_pos (.inl h1)]
    · rw [if_neg h1, if_neg h1]
      by_cases h2 : x = y ∧ i.toInt < j.toInt
      · rw [if_pos h2, if_pos (.inr h2)]
      · rw [if_neg h2, if_neg fun q => q.elim h1 h2]
  rw [e]
  by_cases h1 : y < x
  · rw [if_pos h1]
    exact ⟨.inl rfl, .refl _, .inl h1⟩
  · rw [if_neg h1]
    by_cases h2 : x = y ∧ i.toInt < j.toInt
    · rw [if_pos h2]
      obtain ⟨rfl, h3⟩ := h2
      exact ⟨.inl rfl, .refl _, .inr ⟨rfl, h3.le⟩⟩
    · rw [if_neg h2]
      refine ⟨.inr rfl, ?_, .refl _⟩
      rcases lt_or_eq_of_le (not_lt.1 h1) with h | h
      · exact .inl h
      · exact .inr ⟨h, not_lt.1 fun q => h2 ⟨h, q⟩⟩

/-- A left fold of the body ends at the initial pair or one of the list's, and all of these lose to it. -/
theorem fold_spec (L : List (EReal × BitVec 32)) (z : EReal × BitVec 32) :
    (L.foldl (reducer_argmax_f32_i32 (F := Ideal)) z = z ∨ L.foldl (reducer_argmax_f32_i32 (F := Ideal)) z ∈ L)
      ∧ Beats z (L.foldl (reducer_argmax_f32_i32 (F := Ideal)) z) ∧ ∀ q ∈ L, Beats q (L.foldl (reducer_argmax_f32_i32 (F := Ideal)) z) := by
  induction L generalizing z with
  | nil => exact ⟨.inl rfl, .refl _, fun q hq => absurd hq List.not_mem_nil⟩
  | cons a L ih =>
    rw [List.foldl_cons]
    obtain ⟨h1, h2, h3⟩ := body_spec z a
    obtain ⟨i1, i2, i3⟩ := ih (reducer_argmax_f32_i32 (F := Ideal) z a)
    refine ⟨?_, h2.trans i2, fun q hq => ?_⟩
    · rcases i1 with i1 | i1
      · rw [i1]
        rcases h1 with h1 | h1
        · exact .inl h1
        · exact .inr (by rw [h1]; exact List.mem_cons_self)
      · exact .inr (List.mem_cons_of_mem _ i1)
    · rcases List.mem_cons.1 hq with h | h
      · rw [h]; exact h3.trans i2
      · exact i3 q h

/-- The pairs a row's reduction runs over: each entry with its position. -/
theorem mem_fiber (p : FVec Ideal S262144x43 .f32) (r : Fin 262144) (q : EReal × BitVec 32) :
    q ∈ Host.argReduceFiber p (iotaInDim S262144x43 32 1) reducesTo_S262144x43_S262144_d1 (ix1 r)
      ↔ ∃ k : Fin 43, q = (p (ix2 r k), BitVec.ofNat 32 k.val) := by
  unfold Host.argReduceFiber
  rw [List.mem_map]
  constructor
  · rintro ⟨n, hn, rfl⟩
    rw [List.mem_filter] at hn
    have hd := of_decide_eq_true hn.2
    revert hd
    generalize S262144x43.rowMajor.symm n = i
    intro hd
    have h0 : (i 0).val = r.val := congrArg Fin.val (congrFun hd 0)
    refine ⟨⟨(i 1).val, (i 1).isLt⟩, ?_⟩
    have hi : i = ix2 r (⟨(i 1).val, (i 1).isLt⟩ : Fin 43) := by
      funext a
      apply Fin.ext
      match a with
      | ⟨0, _⟩ => exact h0
      | ⟨1, _⟩ => rfl
    exact Prod.ext (congrArg p hi) rfl
  · rintro ⟨k, rfl⟩
    refine ⟨S262144x43.rowMajor (ix2 r k), List.mem_filter.2 ⟨List.mem_finRange _, decide_eq_true ?_⟩, ?_⟩
    · rw [Equiv.symm_apply_apply]
      funext a
      apply Fin.ext
      match a with
      | ⟨0, _⟩ => rfl
    · rw [Equiv.symm_apply_apply]
      rfl

/-- The initial pair. -/
theorem init_pair : ((constant (F := Ideal) S_ .f32 0xFF800000#32 (Shape.Idx.first h_S_), constantI S_ 32 0#32 (Shape.Idx.first h_S_)) : EReal × BitVec 32)
      = (⊥, 0#32) := Prod.ext Row.ofBits_bot rfl

/-- The paired reduction at a row, as a left fold. -/
theorem pair_apply (p : FVec Ideal S262144x43 .f32) (r : Fin 262144) :
    Host.argReduce (reducer_argmax_f32_i32 (F := Ideal)) p (iotaInDim S262144x43 32 1) (constant S_ .f32 0xFF800000#32)
      (constantI S_ 32 0#32) reducesTo_S262144x43_S262144_d1 h_S_ (ix1 r)
    = (Host.argReduceFiber p (iotaInDim S262144x43 32 1) reducesTo_S262144x43_S262144_d1 (ix1 r)).foldl (reducer_argmax_f32_i32 (F := Ideal)) (⊥, 0#32) := by
  rw [Ideal.argReduce_eq_reduce2, Host.reduce2_eq_foldl_fiber]
  exact congrArg (fun z => (Host.argReduceFiber p (iotaInDim S262144x43 32 1) reducesTo_S262144x43_S262144_d1 (ix1 r)).foldl (reducer_argmax_f32_i32 (F := Ideal)) z) init_pair

/-- A fold of the body over a row's pairs, in whatever order, keeps the first index of a largest value. -/
theorem pick (L : List (EReal × BitVec 32)) (p : Fin 43 → EReal) (hL : ∀ q, q ∈ L ↔ ∃ k : Fin 43, q = (p k, BitVec.ofNat 32 k.val))
    (k : Fin 43) (hk : p k = Row.top p) (hmin : ∀ q : Fin 43, p q = Row.top p → k ≤ q) :
    (L.foldl (reducer_argmax_f32_i32 (F := Ideal)) (⊥, 0#32)).2 = BitVec.ofNat 32 k.val := by
  obtain ⟨h1, -, h3⟩ := fold_spec L (⊥, 0#32)
  have hb := h3 _ ((hL _).2 ⟨k, rfl⟩)
  rw [hL] at h1
  revert h1 hb
  generalize L.foldl (reducer_argmax_f32_i32 (F := Ideal)) (⊥, 0#32) = z
  intro h1 hb
  have hlt := k.isLt
  rcases h1 with rfl | ⟨q, rfl⟩
  · have hbot : p k = ⊥ := by
      rcases hb with h | h
      · exact absurd h not_lt_bot
      · exact h.1
    have h0 : p 0 = Row.top p := by
      refine le_antisymm (Row.entry_le_top p 0) ?_
      rw [← hk, hbot]; exact bot_le
    have := Fin.le_def.1 (hmin 0 h0)
    rw [show k.val = 0 from Nat.le_zero.1 this]
  · rcases hb with h | ⟨h, i⟩
    · exact absurd h (not_lt.2 (by rw [hk]; exact Row.entry_le_top p q))
    · have hle := Fin.le_def.1 (hmin q (h.symm.trans hk))
      have hq := q.isLt
      dsimp only at i
      rw [Row.toInt_small _ (by omega), Row.toInt_small _ (by omega)] at i
      rw [show k.val = q.val by omega]

/-- The second component at an index, of a pair known there. -/
theorem seconds_apply {ι α β : Type} (f : ι → α × β) (i : ι) (z : α × β) (h : f i = z) : seconds f i = z.2 := by
  subst h
  rfl

/-- The predicted class is the first index of a largest probability. -/
theorem predicted_apply (p : FVec Ideal S262144x43 .f32) (r : Fin 262144) (k : Fin 43) (hk : p (ix2 r k) = Row.top fun q : Fin 43 => p (ix2 r q))
    (hmin : ∀ q : Fin 43, p (ix2 r q) = (Row.top fun q : Fin 43 => p (ix2 r q)) → k ≤ q) : predicted p (ix1 r) = BitVec.ofNat 32 k.val := by
  have h := pick _ (fun q : Fin 43 => p (ix2 r q)) (mem_fiber p r) k hk hmin
  unfold predicted topIndex
  exact (seconds_apply _ _ _ (pair_apply p r)).trans h

end Cert.ReferenceIdeal.Run
-- ==== Proof.RefValue.lean ====
/- The reference's result at `Ideal`, read at one entry: the row function of the row's logits. -/
module

public import proofs.«01_k».proof.Proof.RefRead
public import proofs.«01_k».proof.Proof.RefPred

@[expose] public section

set_option maxRecDepth 16384

noncomputable section

namespace Cert.ReferenceIdeal.Run

open Cert.ReferenceIdeal Cert.ReferenceIdeal.Gen Idealize.ShloMosaic

/-- An exponential is the row function's. -/
theorem exps_row (l : FVec Ideal S262144x43 .f32) (r : Fin 262144) (k : Fin 43) : exps l (ix2 r k) = Row.expo (fun q : Fin 43 => l (ix2 r q)) k := by
  rw [exps_apply, rowMax_apply, Row.ofBits_bot, max_eq_right bot_le]
  rfl

/-- A probability is the row function's. -/
theorem softmax_row (l : FVec Ideal S262144x43 .f32) (r : Fin 262144) (k : Fin 43) : softmax l (ix2 r k) = Row.soft (fun q : Fin 43 => l (ix2 r q)) k := by
  rw [softmax_apply]
  simp only [exps_row]
  rfl

/-- Whether the entropy is above the threshold is the row function's. -/
theorem unsure_row (p : FVec Ideal S262144x43 .f32) (r : Fin 262144) : unsure (uncertainty p) (ix1 r) = Row.high fun q : Fin 43 => p (ix2 r q) := by
  rw [unsure_apply, Row.high, zero_sub]
  rfl

/-- The class acted on is the row function's. -/
theorem acted_row (p : FVec Ideal S262144x43 .f32) (r : Fin 262144) :
    acted (uncertainty p) (predicted p) speeds priorities (ix1 r)
      = Row.act (Row.high fun q : Fin 43 => p (ix2 r q)) (Row.first fun q : Fin 43 => p (ix2 r q)) := by
  obtain ⟨k, hk, hmin⟩ := Row.exists_first (by decide) fun q : Fin 43 => p (ix2 r q)
  rw [acted_apply, predicted_apply p r k hk hmin, Row.among9_eq, Row.among6_eq, unsure_row, Row.first_eq (by decide) _ k hk hmin]
  rfl

/-- An entry of the result, from the row's logits. -/
theorem result_apply (x : FVec Ideal S262144x128 .f32) (W : FVec Ideal S128x43 .f32) (b : FVec Ideal S43 .f32) (r : Fin 262144) (k : Fin 43) :
    result x W b (ix2 r k) = Row.out (Row.logit (fun q => x (ix2 r q)) (fun q k => W (ix2 q k)) fun k => b (ix1 k)) k.val := by
  have hl : (fun q : Fin 43 => logits x W b (ix2 r q)) = Row.logit (fun q => x (ix2 r q)) (fun q k => W (ix2 q k)) fun k => b (ix1 k) :=
    funext fun q => logits_apply x W b r q
  have hs : (fun q : Fin 43 => softmax (logits x W b) (ix2 r q)) = Row.soft (Row.logit (fun q => x (ix2 r q)) (fun q k => W (ix2 q k)) fun k => b (ix1 k)) :=
    funext fun q => by rw [softmax_row, hl]
  rw [result, policy, encoded_apply, Row.code_eq, acted_row, hs, Row.out]

end Cert.ReferenceIdeal.Run
-- ==== Proof.lean ====
/- The five claims: the three frames and the preserved idealization, then the equality of the two results,
   which the kernel's and the reference's values at one entry give. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelPad
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel's result, from the three arguments: the reference's result, entry by entry. -/
theorem value_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD) :
    (Cert.KernelIdeal.Gen.dat1 (Cert.KernelIdeal.Gen.V3 m g) c).arrAt 3 Cert.KernelIdeal.cfg1.N
      = Cert.ReferenceIdeal.Run.result (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.Val.arr_eq]
  funext i
  obtain ⟨r, k, rfl⟩ : ∃ (r : Fin 262144) (k : Fin 43), i = ix2 r k :=
    ⟨⟨(i 0).val, (i 0).isLt⟩, ⟨(i 1).val, (i 1).isLt⟩, funext fun a => Fin.ext (match a with | ⟨0, _⟩ => rfl | ⟨1, _⟩ => rfl)⟩
  rw [Cert.ReferenceIdeal.Run.result_apply, Cert.KernelIdeal.Val.final, Cert.KernelIdeal.Val.V3_x, Cert.KernelIdeal.Val.V3_W, Cert.KernelIdeal.Val.V3_B]
  exact Cert.KernelIdeal.Val.pad_row _ _ _ k.val

/-- The kernel's frame. -/
theorem frame_kernel : Cert.quiescent_Kernel (hKernel := Cert.Kernel.Gen.facts) := fun m g _ => Cert.Kernel.Gen.frame m g

/-- The idealized kernel's frame. -/
theorem frame_ideal : Cert.quiescent_KernelIdeal (hKernelIdeal := Cert.KernelIdeal.Gen.facts) := fun m g _ => Cert.KernelIdeal.Gen.frame m g

/-- The reference's frame. -/
theorem frame_reference : Cert.quiescent_ReferenceIdeal (hReferenceIdeal := Cert.ReferenceIdeal.Gen.facts) := fun m g _ =>
  (θ_run _ _ _).mono (fun _ h => ⟨fun c => (h.1 c).2, h.2⟩) (Cert.ReferenceIdeal.Run.run (F := Ideal) m g)

/-- The idealized kernel is the kernel with its mask named. -/
theorem named_mask : Cert.preserves_Kernel_KernelIdeal :=
  IdealRules.named_const.statement Cert.KernelIdeal.κ "mask" .f32 0xF149F2CA#32 ⊥ rfl

/-- The two programs end with the same result. -/
theorem same_result : Cert.algebraic_KernelIdeal_ReferenceIdeal (hKernelIdeal := Cert.KernelIdeal.Gen.facts) (hReferenceIdeal := Cert.ReferenceIdeal.Gen.facts) := by
  intro m g m' g' _ hagree
  refine ⟨fun c => (Cert.KernelIdeal.Gen.dat1 (Cert.KernelIdeal.Gen.V3 m g) c).arrAt 3 Cert.KernelIdeal.cfg1.N,
    (θ_run _ _ _).mono (fun _ h => h.1) (Cert.KernelIdeal.Val.run (F := Ideal) m g),
    (θ_run _ _ _).mono (fun _ h c => ⟨(h.1 c).1.trans ?_, (h.1 c).2⟩) (Cert.ReferenceIdeal.Run.run (F := Ideal) m' g')⟩
  obtain ⟨h0, h1, h2⟩ := hagree c
  rw [h0, h1, h2]
  exact (value_eq m g c).symm

/-- Everything claimed. -/
theorem claim : Cert.Claim :=
  ⟨Cert.Kernel.Gen.facts, Cert.KernelIdeal.Gen.facts, Cert.ReferenceIdeal.Gen.facts, frame_kernel, frame_ideal, frame_reference, named_mask, same_result⟩

end Cert.Proof

end
